-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 512]⟩ ⟨2, ![1024, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v67) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x2 : Shape := ⟨2, ![1024, 2]⟩
abbrev S4x256x512 : Shape := ⟨3, ![4, 256, 512]⟩
abbrev S256x512 : Shape := ⟨2, ![256, 512]⟩
abbrev S1024x512 : Shape := ⟨2, ![1024, 512]⟩
abbrev S3x256x512 : Shape := ⟨3, ![3, 256, 512]⟩
abbrev S3 : Shape := ⟨1, ![3]⟩
abbrev S_ : Shape := ⟨0, ![]⟩
abbrev S1024x16 : Shape := ⟨2, ![1024, 16]⟩
abbrev S1024 : Shape := ⟨1, ![1024]⟩
abbrev S1024x1 : Shape := ⟨2, ![1024, 1]⟩
abbrev S1x256x512 : Shape := ⟨3, ![1, 256, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x2, .i32⟩
  | .hbm, ⟨3, _⟩ => ⟨S4x256x512, .bf16⟩
  | .hbm, ⟨4, _⟩ => ⟨S256x512, .f32⟩
  | .local _ .vmem, ⟨0, _⟩ => ⟨S1024x256, .bf16⟩
  | .local _ .vmem, ⟨1, _⟩ => ⟨S256x16, .bf16⟩
  | .local _ .vmem, ⟨2, _⟩ => ⟨S1024x2, .i32⟩
  | .local _ .vmem, ⟨3, _⟩ => ⟨S4x256x512, .bf16⟩
  | .local _ .vmem, ⟨4, _⟩ => ⟨S256x512, .f32⟩
  | .local _ .vmem, ⟨5, _⟩ => ⟨S1024x512, .f32⟩
  | .local _ .vmem, ⟨6, _⟩ => ⟨S3x256x512, .f32⟩
  | .local _ .vmem, ⟨7, _⟩ => ⟨S3x256x512, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_54 : BitVec 32 := 4#32
  let v119 : BitVec 32 := Scalar.addi v2 c4_i32_54
  let c1_i32_55 : BitVec 32 := 1#32
  let v120 : BitVec 32 := Scalar.subi v119 c1_i32_55
  let c4_i32_56 : BitVec 32 := 4#32
  let v121 : BitVec 32 := Scalar.remsi v120 c4_i32_56
  let c256_i32 : BitVec 32 := 256#32
  let v122 : BitVec 32 := Scalar.muli v121 c256_i32
  let v123 : Index := Scalar.indexCast v122
  let c0_57 : Index := 0#32
  ![v123.toNat, 0]
def k0_dev3 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_65 : BitVec 32 := 1#32
  let v128 : BitVec 32 := Scalar.muli v7 c1_i32_65
  let v129 : BitVec 32 := Scalar.addi c0_i32_66 v128
  v129.toNat
def k0_off2 (d0 : Dev nD) (c0_i32_91 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v152 : BitVec 32 := Scalar.addi v2 c8_i32
  let c2_i32_90 : BitVec 32 := 2#32
  let v153 : BitVec 32 := Scalar.subi v152 c2_i32_90
  let v154 : BitVec 32 := Scalar.subi v153 c0_i32_91
  let c4_i32_92 : BitVec 32 := 4#32
  let v155 : BitVec 32 := Scalar.remsi v154 c4_i32_92
  let c256_i32_96 : BitVec 32 := 256#32
  let v158 : BitVec 32 := Scalar.muli v155 c256_i32_96
  let v159 : Index := Scalar.indexCast v158
  let c0_97 : Index := 0#32
  ![v159.toNat, 0]
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_105 : BitVec 32 := 1#32
  let v165 : BitVec 32 := Scalar.muli v7 c1_i32_105
  let v166 : BitVec 32 := Scalar.addi c0_i32_106 v165
  v166.toNat
def k0_dev5 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_146 : BitVec 32 := 1#32
  let v202 : BitVec 32 := Scalar.muli v7 c1_i32_146
  let v203 : BitVec 32 := Scalar.addi c0_i32_147 v202
  v203.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x2 : Shape := ⟨2, ![1024, 2]⟩
abbrev S16x256x512 : Shape := ⟨3, ![16, 256, 512]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x256x512 : Shape := ⟨3, ![1024, 256, 512]⟩
abbrev S1024x512 : Shape := ⟨2, ![1024, 512]⟩

abbrev nBuf : Space → Nat
  | .hbm => 96
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x16, .bf16⟩
  | .hbm, ⟨2, _⟩ => ⟨S1024x2, .i32⟩
  | .hbm, ⟨3, _⟩ => ⟨S16x256x512, .bf16⟩
  | .hbm, ⟨4, _⟩ => ⟨S1024x256, .f32⟩
  | .hbm, ⟨5, _⟩ => ⟨S256x16, .f32⟩
  | .hbm, ⟨6, _⟩ => ⟨S1024x16, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x16, .f32⟩
  | .hbm, ⟨11, _⟩ => ⟨S1024x16, .f32⟩
  | .hbm, ⟨12, _⟩ => ⟨S1024x16, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x16, .f32⟩
  | .hbm, ⟨17, _⟩ => ⟨S1024x16, .f32⟩
  | .hbm, ⟨18, _⟩ => ⟨S16x256x512, .f32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S1024, .f32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024, .i1⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .i32⟩
  | .hbm, ⟨40, _⟩ => ⟨S1024x1, .i32⟩
  | .hbm, ⟨41, _⟩ => ⟨S1024x2, .i32⟩
  | .hbm, ⟨42, _⟩ => ⟨S1024, .f32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S1024, .i1⟩
  | .hbm, ⟨50, _⟩ => ⟨S_, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i1⟩
  | .hbm, ⟨61, _⟩ => ⟨S1024, .i1⟩
  | .hbm, ⟨62, _⟩ => ⟨S1024x1, .i1⟩
  | .hbm, ⟨63, _⟩ => ⟨S1024, .f32⟩
  | .hbm, ⟨64, _⟩ => ⟨S1024x1, .f32⟩
  | .hbm, ⟨65, _⟩ => ⟨S1024x1, .i32⟩
  | .hbm, ⟨66, _⟩ => ⟨S1024x256x512, .f32⟩
  | .hbm, ⟨67, _⟩ => ⟨S1024x512, .f32⟩
  | .hbm, ⟨68, _⟩ => ⟨S1024x512, .f32⟩
  | .hbm, ⟨69, _⟩ => ⟨S1024x512, .f32⟩
  | .hbm, ⟨70, _⟩ => ⟨S_, .f32⟩
  | .hbm, ⟨71, _⟩ => ⟨S_, .f32⟩
  | .hbm, ⟨72, _⟩ => ⟨S1024x512, .i1⟩
  | .hbm, ⟨73, _⟩ => ⟨S1024x512, .f32⟩
  | .hbm, ⟨74, _⟩ => ⟨S1024x512, .f32⟩
  | .hbm, ⟨75, _⟩ => ⟨S_, .i32⟩
  | .hbm, ⟨76, _⟩ => ⟨S1024, .i32⟩
  | .hbm, ⟨77, _⟩ => ⟨S1024, .i1⟩
  | .hbm, ⟨78, _⟩ => ⟨S_, .i32⟩
  | .hbm, ⟨79, _⟩ => ⟨S1024, .i32⟩
  | .hbm, ⟨80, _⟩ => ⟨S1024, .i1⟩
  | .hbm, ⟨81, _⟩ => ⟨S1024, .i1⟩
  | .hbm, ⟨82, _⟩ => ⟨S1024x1, .i1⟩
  | .hbm, ⟨83, _⟩ => ⟨S1024, .f32⟩
  | .hbm, ⟨84, _⟩ => ⟨S1024x1, .f32⟩
  | .hbm, ⟨85, _⟩ => ⟨S1024x1, .i32⟩
  | .hbm, ⟨86, _⟩ => ⟨S1024x256x512, .f32⟩
  | .hbm, ⟨87, _⟩ => ⟨S1024x512, .f32⟩
  | .hbm, ⟨88, _⟩ => ⟨S1024x512, .f32⟩
  | .hbm, ⟨89, _⟩ => ⟨S1024x512, .f32⟩
  | .hbm, ⟨90, _⟩ => ⟨S_, .f32⟩
  | .hbm, ⟨91, _⟩ => ⟨S_, .f32⟩
  | .hbm, ⟨92, _⟩ => ⟨S1024x512, .i1⟩
  | .hbm, ⟨93, _⟩ => ⟨S1024x512, .f32⟩
  | .hbm, ⟨94, _⟩ => ⟨S1024x512, .f32⟩
  | .hbm, ⟨95, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Proof.Protocol.lean ====
/-
# The ring of the kernel: contents, cells and schedule

Four devices in a ring; `nxt c` is the device the kernel copies to, `prv c` the device it receives from.
Every device computes its own contribution to the whole output (`part`), and the sum of the contributions travels
around the ring in three rounds: in round `s` device `c` copies slot `s` of its send buffer into slot `s` of
`nxt c`'s receive buffer.

Who pays which semaphore, and what comes with the payment:

* barrier of `c` (awaited once, for two units): one unit from `nxt c`, which hands over its whole receive buffer
  at whatever contents; one unit from `prv c`, which hands over nothing;
* send semaphore `s` of `c`: the credit of `c`'s own round-`s` copy, with the send slot `s` back;
* receive semaphore `s` of `c`: the credit of `prv c`'s round-`s` copy, with the receive slot `s` of `c` holding
  what `prv c` sent, `acc (prv c) s`.

The running sum: `acc c 0` is the chunk of `part c` that ends on `prv c`'s neighbour after three hops, and
`acc c (s+1)` is what landed in round `s` plus `c`'s own chunk.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Writes

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost algebra: the pipeline's rounds beside the ring's -/

abbrev RingU : Type := URounds (GSem nD τ sig) Bool
abbrev AllU : Type := UR sig nD τ × RingU

local notation "𝕄" => MT nD τ sig Unit (Elt F) ℕ AllU ℕ

abbrev embP : Emb (UR sig nD τ) (MT nD τ sig Unit (Elt F) ℕ AllU ℕ) := embL
abbrev embG : Emb RingU (MT nD τ sig Unit (Elt F) ℕ AllU ℕ) := embR

variable (m : (ℓ : Loc nD τ sig) → Buf (Elt F) ℓ) (ρ : Dev nD → PrngReg)

/-- The machine at launch. -/
def start₀ : MemSt nD τ sig (Elt F) := ⟨m, fun _ => 0, ρ⟩

/-! ## The ring -/

set_option backward.proofsInPublic true in
/-- The device the kernel copies to. -/
def nxt (c : Dev nD) : Dev nD := ⟨(c.val + 1) % 4, Nat.mod_lt _ (by decide)⟩
set_option backward.proofsInPublic true in
/-- The device the kernel receives from. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- One step around the ring, as a permutation of the devices. -/
def turn : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

/-! ## Semaphores and slots -/

abbrev barS : Sem sig := (SemArray.scalar (sig.barrier 0 rfl) : Sems sig S_).sem
/-- Send semaphore of round `s`. -/
abbrev sS (s : Fin 3) : DmaSem sig := (⟨5 + s.val, by omega⟩ : Fin 11)
/-- Receive semaphore of round `s`. -/
abbrev vS (s : Fin 3) : DmaSem sig := (⟨8 + s.val, by omega⟩ : Fin 11)

theorem send_sem0 : ((cc0_scratch3.slice (Rect.unit (s := S3) ![0] ![1] inb_S3_S1_0)).squeeze S_ squeezes_S1_S_).sem = sS 0 := rfl
theorem send_sem1 : ((cc0_scratch3.slice (Rect.unit (s := S3) ![1] ![1] inb_S3_S1_1)).squeeze S_ squeezes_S1_S_).sem = sS 1 := rfl
theorem send_sem2 : ((cc0_scratch3.slice (Rect.unit (s := S3) ![2] ![1] inb_S3_S1_2)).squeeze S_ squeezes_S1_S_).sem = sS 2 := rfl
theorem recv_sem0 : ((cc0_scratch4.slice (Rect.unit (s := S3) ![0] ![1] inb_S3_S1_0)).squeeze S_ squeezes_S1_S_).sem = vS 0 := rfl
theorem recv_sem1 : ((cc0_scratch4.slice (Rect.unit (s := S3) ![1] ![1] inb_S3_S1_1)).squeeze S_ squeezes_S1_S_).sem = vS 1 := rfl
theorem recv_sem2 : ((cc0_scratch4.slice (Rect.unit (s := S3) ![2] ![1] inb_S3_S1_2)).squeeze S_ squeezes_S1_S_).sem = vS 2 := rfl

theorem slot_inb (s : Fin 3) : ∀ a, (![s.val, 0, 0] : Fin 3 → Nat) a + S1x256x512.size a ≤ S3x256x512.size a := by
  revert s; decide

/-- The rows of slot `s` in a three-slot buffer. -/
abbrev slotR (s : Fin 3) : Rect S3x256x512 := Rect.unit (s := S3x256x512) ![s.val, 0, 0] S1x256x512.size (slot_inb s)
/-- Slot `s` of the send buffer and of the receive buffer, as the copies name them. -/
abbrev sendM (s : Fin 3) : Memref sig .tc .vmem S256x512 .f32 :=
  ((Memref.whole cc0_scratch1).slice (slotR s) (fun _ => rfl)).squeeze S256x512 squeezes_S1x256x512_S256x512
abbrev recvM (s : Fin 3) : Memref sig .tc .vmem S256x512 .f32 :=
  ((Memref.whole cc0_scratch2).slice (slotR s) (fun _ => rfl)).squeeze S256x512 squeezes_S1x256x512_S256x512

/-- The credit of one copy. -/
abbrev N : ℕ := (recvM 0).view.dmaCredit
theorem N_pos : 0 < N := View.dmaCredit_pos _ (by decide)
theorem N_send (s : Fin 3) : (sendM s).view.dmaCredit = N := rfl
theorem N_recv (s : Fin 3) : (recvM s).view.dmaCredit = N := rfl

theorem sendM_set (s : Fin 3) : (sendM s).view.set = (slotR s).set :=
  (View.set_reshape _ _).trans (View.set_slice_whole _ _)
theorem recvM_set (s : Fin 3) : (recvM s).view.set = (slotR s).set :=
  (View.set_reshape _ _).trans (View.set_slice_whole _ _)

theorem mem_slot (s : Fin 3) (i : S3x256x512.Idx) : i ∈ (slotR s).set ↔ (i 0).val = s.val := by
  rw [Rect.mem_set_unit]
  constructor
  · intro h
    have h0 := h 0
    change s.val ≤ (i 0).val ∧ (i 0).val < s.val + 1 at h0
    omega
  · intro h a
    have ha := (i a).isLt
    fin_cases a
    · change s.val ≤ (i 0).val ∧ (i 0).val < s.val + 1; omega
    · change 0 ≤ (i 1).val ∧ (i 1).val < 0 + 256
      change (i 1).val < 256 at ha; omega
    · change 0 ≤ (i 2).val ∧ (i 2).val < 0 + 512
      change (i 2).val < 512 at ha; omega

theorem slots_disjoint (s s' : Fin 3) (h : s ≠ s') : Disjoint (slotR s).set (slotR s').set := by
  rw [Finset.disjoint_left]
  intro i hi hi'
  exact h (Fin.ext (((mem_slot s i).mp hi).symm.trans ((mem_slot s' i).mp hi')))

theorem slots_cover : (Finset.univ.biUnion fun s : Fin 3 => (slotR s).set) = Finset.univ := by
  ext i
  refine ⟨fun _ => Finset.mem_univ _, fun _ => ?_⟩
  have h3 : (i 0).val < 3 := (i 0).isLt
  exact Finset.mem_biUnion.mpr ⟨⟨(i 0).val, h3⟩, Finset.mem_univ _, (mem_slot _ i).mpr rfl⟩

/-- Slot `s` of device `c`'s send buffer, and of its receive buffer, held at contents `f`. -/
def sendAt (c : Dev nD) (s : Fin 3) (f : Buf (Elt F) ((c : Thread nD τ).loc cc0_scratch1)) : sProp 𝕄 :=
  (sendM s).view.loc (c : Thread nD τ) ↦[(sendM s).view.set]{fullShare} f
def recvAt (c : Dev nD) (s : Fin 3) (f : Buf (Elt F) ((c : Thread nD τ).loc cc0_scratch2)) : sProp 𝕄 :=
  (recvM s).view.loc (c : Thread nD τ) ↦[(recvM s).view.set]{fullShare} f

omit [FloatOps F] in
instance sendAt_storable (c : Dev nD) (s f) : BI.Storable (upEmb : UEmb _ 𝕄) (sendAt (F := F) c s f) := by unfold sendAt; infer_instance
omit [FloatOps F] in
instance recvAt_storable (c : Dev nD) (s f) : BI.Storable (upEmb : UEmb _ 𝕄) (recvAt (F := F) c s f) := by unfold recvAt; infer_instance

omit [FloatOps F] in
theorem fin3_sep (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A three-slot buffer held whole is its three slots held; -/
theorem send_slots (c : Dev nD) (f : Buf (Elt F) ((c : Thread nD τ).loc cc0_scratch1)) :
    ((c : Thread nD τ).loc cc0_scratch1 ↦{fullShare} f : sProp 𝕄) = iprop(sendAt c 0 f ∗ sendAt c 1 f ∗ sendAt c 2 f) := by
  rw [← fin3_sep fun s => sendAt c s f]
  refine (Ring.pointsTo_blocks (fun s : Fin 3 => (slotR s).set) slots_disjoint slots_cover f).trans (bigSep_congr fun s _ => ?_)
  unfold sendAt; rw [sendM_set]
omit [FloatOps F] in
theorem recv_slots (c : Dev nD) (f : Buf (Elt F) ((c : Thread nD τ).loc cc0_scratch2)) :
    ((c : Thread nD τ).loc cc0_scratch2 ↦{fullShare} f : sProp 𝕄) = iprop(recvAt c 0 f ∗ recvAt c 1 f ∗ recvAt c 2 f) := by
  rw [← fin3_sep fun s => recvAt c s f]
  refine (Ring.pointsTo_blocks (fun s : Fin 3 => (slotR s).set) slots_disjoint slots_cover f).trans (bigSep_congr fun s _ => ?_)
  unfold recvAt; rw [recvM_set]

omit [FloatOps F] in
/-- and three slots, each at contents of its own, are the buffer at some contents. -/
theorem send_join (c : Dev nD) (f₀ f₁ f₂ : Buf (Elt F) ((c : Thread nD τ).loc cc0_scratch1)) :
    (iprop(sendAt c 0 f₀ ∗ sendAt c 1 f₁ ∗ sendAt c 2 f₂) : sProp 𝕄)
      ⊢ iprop(∃ g : Buf (Elt F) ((c : Thread nD τ).loc cc0_scratch1), (c : Thread nD τ).loc cc0_scratch1 ↦{fullShare} g) := by
  refine (Entails.of_eq ?_).trans (Ring.pointsTo_blocks_join (fun s : Fin 3 => (slotR s).set) slots_disjoint slots_cover
    (fun s => match s with | 0 => f₀ | 1 => f₁ | 2 => f₂) f₀)
  rw [fin3_sep]; unfold sendAt; rw [sendM_set, sendM_set, sendM_set]
omit [FloatOps F] in
theorem recv_join (c : Dev nD) (f₀ f₁ f₂ : Buf (Elt F) ((c : Thread nD τ).loc cc0_scratch2)) :
    (iprop(recvAt c 0 f₀ ∗ recvAt c 1 f₁ ∗ recvAt c 2 f₂) : sProp 𝕄)
      ⊢ iprop(∃ g : Buf (Elt F) ((c : Thread nD τ).loc cc0_scratch2), (c : Thread nD τ).loc cc0_scratch2 ↦{fullShare} g) := by
  refine (Entails.of_eq ?_).trans (Ring.pointsTo_blocks_join (fun s : Fin 3 => (slotR s).set) slots_disjoint slots_cover
    (fun s => match s with | 0 => f₀ | 1 => f₁ | 2 => f₂) f₀)
  rw [fin3_sep]; unfold recvAt; rw [recvM_set, recvM_set, recvM_set]

/-! ## Contents -/

/-- The four staged arguments of device `c`. -/
def xOf (c : Dev nD) : (cc0_stg0_0 : Ref sig .tc).ty.Contents (Elt F) :=
  (win0_0.blk (0 : Fin 1)).view.read (Elt F) ((start₀ m ρ).mem ((c : Thread nD τ).loc main_arg0))
def wOf (c : Dev nD) : (cc0_stg1_0 : Ref sig .tc).ty.Contents (Elt F) :=
  (win0_1.blk (0 : Fin 1)).view.read (Elt F) ((start₀ m ρ).mem ((c : Thread nD τ).loc main_arg1))
def iOf (c : Dev nD) : (cc0_stg2_0 : Ref sig .tc).ty.Contents (Elt F) :=
  (win0_2.blk (0 : Fin 1)).view.read (Elt F) ((start₀ m ρ).mem ((c : Thread nD τ).loc main_arg2))
def eOf (c : Dev nD) : (cc0_stg3_0 : Ref sig .tc).ty.Contents (Elt F) :=
  (win0_3.blk (0 : Fin 1)).view.read (Elt F) ((start₀ m ρ).mem ((c : Thread nD τ).loc main_arg3))

/-- Slab `j` of a device's four experts. -/
theorem slab_inb (j : Fin 4) : ∀ a, (![j.val, 0, 0] : Fin 3 → Nat) a + S1x256x512.size a ≤ S4x256x512.size a := by
  revert j; decide
abbrev slabR (j : Fin 4) : Rect S4x256x512 := Rect.unit (s := S4x256x512) ![j.val, 0, 0] S1x256x512.size (slab_inb j)

/-- What device `d` contributes to every output row: the four steps of the kernel's local loop, over its arguments. -/
def contrib (d : Dev nD) (x : (cc0_stg0_0 : Ref sig .tc).ty.Contents (Elt F)) (w : (cc0_stg1_0 : Ref sig .tc).ty.Contents (Elt F))
    (ix : (cc0_stg2_0 : Ref sig .tc).ty.Contents (Elt F)) (e : (cc0_stg3_0 : Ref sig .tc).ty.Contents (Elt F)) :
    (cc0_scratch0 : Ref sig .tc).ty.Contents (Elt F) :=
  let me : BitVec 32 := Scalar.remsi (Scalar.divsi (Dev.word d) 1#32) 4#32
  let i0 := (Memref.whole cc0_stg2_0).view.readAt (Elt F) (Rect.unit (s := S1024x2) ![0, 0] S1024x1.size inb_S1024x2_S1024x1_0_0).toLoadRect ix
  let i1 := (Memref.whole cc0_stg2_0).view.readAt (Elt F) (Rect.unit (s := S1024x2) ![0, 1] S1024x1.size inb_S1024x2_S1024x1_0_1).toLoadRect ix
  let slab := fun j : Fin 4 => (Memref.whole cc0_stg3_0).view.readAt (Elt F) (slabR j).toLoadRect e
  let p := k0_pay3 x w
  k0_pay17
    (k0_pay14 me (k0_pay2 x) (k0_pay4 i0) (k0_pay5 i1) (k0_pay9 p (k0_pay4 i0) i1) (k0_pay10 p (k0_pay4 i0) i1)
      (k0_pay11 me (k0_pay2 x) p (k0_pay4 i0) i1 (slab 0)) (k0_pay12 me p (k0_pay4 i0) i1) (k0_pay13 me i1)
      (Scalar.ofBits .f32 0x00000000#32) (slab 1) (slab 2))
    (k0_pay15 me (k0_pay4 i0) (k0_pay5 i1) (k0_pay9 p (k0_pay4 i0) i1) (k0_pay10 p (k0_pay4 i0) i1))
    (k0_pay16 (k0_pay2 x) (slab 3))

def part (c : Dev nD) : (cc0_scratch0 : Ref sig .tc).ty.Contents (Elt F) :=
  contrib c (xOf m ρ c) (wOf m ρ c) (iOf m ρ c) (eOf m ρ c)

/-- The chunk of `part c` that device `c` sends first, and the one it adds to what lands in round `s`. -/
def firstChunk (c : Dev nD) (p : (cc0_scratch0 : Ref sig .tc).ty.Contents (Elt F)) : FVec F S256x512 .f32 :=
  (Memref.whole cc0_scratch0).view.readAt (Elt F) (Rect.unit (s := S1024x512) (k0_off1 c) S256x512.size (k0_off1_inb c)).toLoadRect p
def chunkAt (c : Dev nD) (s : Fin 3) (p : (cc0_scratch0 : Ref sig .tc).ty.Contents (Elt F)) : FVec F S256x512 .f32 :=
  (Memref.whole cc0_scratch0).view.readAt (Elt F) (Rect.unit (s := S1024x512) (k0_off2 c (BitVec.ofNat 32 s.val)) S256x512.size (k0_off2_inb c s)).toLoadRect p

/-- The running sum device `c` holds after `s` rounds. -/
def acc0 (c : Dev nD) : FVec F S256x512 .f32 := firstChunk c (part m ρ c)
def acc1 (c : Dev nD) : FVec F S256x512 .f32 := addf (acc0 m ρ (prv c)) (chunkAt c 0 (part m ρ c))
def acc2 (c : Dev nD) : FVec F S256x512 .f32 := addf (acc1 m ρ (prv c)) (chunkAt c 1 (part m ρ c))
def acc3 (c : Dev nD) : FVec F S256x512 .f32 := addf (acc2 m ρ (prv c)) (chunkAt c 2 (part m ρ c))
/-- What device `c` sends in round `s`. -/
def sent (c : Dev nD) (s : Fin 3) : FVec F S256x512 .f32 :=
  match s with | 0 => acc0 m ρ c | 1 => acc1 m ρ c | 2 => acc2 m ρ c

/-! ## Cells and the schedule -/

/-- A device's cells: `none` its barrier, `some (false, s)` its send semaphore of round `s`, `some (true, s)` its
    receive semaphore of round `s`. -/
abbrev CI : Type := Option (Bool × Fin 3)

abbrev semOf : CI → SemLoc sig
  | none => .reg barS
  | some (false, s) => .dma (sS s)
  | some (true, s) => .dma (vS s)
abbrev cell (ci : Dev nD × CI) : GSem nD τ sig := ((ci.1 : Thread nD τ), semOf ci.2)

abbrev barCell (c : Dev nD) : GSem nD τ sig := ((c : Thread nD τ), .reg barS)
abbrev sendCell (c : Dev nD) (s : Fin 3) : GSem nD τ sig := ((c : Thread nD τ), .dma (sS s))
abbrev recvCell (c : Dev nD) (s : Fin 3) : GSem nD τ sig := ((c : Thread nD τ), .dma (vS s))

/-- Which of the ring's cells a semaphore is, if any. -/
def role (sm : SemLoc sig) : Option CI :=
  if sm = .reg barS then some none
  else if sm = .dma (sS 0) then some (some (false, 0)) else if sm = .dma (sS 1) then some (some (false, 1)) else if sm = .dma (sS 2) then some (some (false, 2))
  else if sm = .dma (vS 0) then some (some (true, 0)) else if sm = .dma (vS 1) then some (some (true, 1)) else if sm = .dma (vS 2) then some (some (true, 2))
  else none

theorem role_semOf (i : CI) : role (semOf i) = some i := by revert i; decide
theorem semOf_injective : Function.Injective semOf := fun i j h => by
  have := congrArg role h; rw [role_semOf, role_semOf] at this; exact Option.some.inj this
theorem role_bar : role (.reg barS) = some none := role_semOf none
theorem role_send (s : Fin 3) : role (.dma (sS s)) = some (some (false, s)) := role_semOf (some (false, s))
theorem role_recv (s : Fin 3) : role (.dma (vS s)) = some (some (true, s)) := role_semOf (some (true, s))

/-- What `nxt c`'s unit on `c`'s barrier hands over: `nxt c`'s receive buffer. -/
def barPay (c : Dev nD) : sProp 𝕄 :=
  iprop(∃ f : Buf (Elt F) ((nxt c : Thread nD τ).loc cc0_scratch2), (nxt c : Thread nD τ).loc cc0_scratch2 ↦{fullShare} f)
/-- What a send semaphore hands back: the slot. -/
def sendPay (c : Dev nD) (s : Fin 3) : sProp 𝕄 := iprop(∃ f, sendAt c s f)
/-- What a receive semaphore hands over: the slot, holding what `prv c` sent. -/
def recvPay (c : Dev nD) (s : Fin 3) : sProp 𝕄 := iprop(∃ f, ⌜(recvM s).view.read (Elt F) f = sent m ρ (prv c) s⌝ ∗ recvAt c s f)

/-- The payment of duty `d` at cell `i` of device `c`. -/
def payOf (c : Dev nD) (i : CI) (d : Bool) : sProp 𝕄 :=
  match i with
  | none => if d then barPay c else iprop(emp)
  | some (false, s) => sendPay c s
  | some (true, s) => recvPay m ρ c s

omit [FloatOps F] in
instance barPay_storable (c : Dev nD) : BI.Storable (upEmb : UEmb _ 𝕄) (barPay (F := F) c) := by unfold barPay; infer_instance
omit [FloatOps F] in
instance sendPay_storable (c : Dev nD) (s) : BI.Storable (upEmb : UEmb _ 𝕄) (sendPay (F := F) c s) := by unfold sendPay; infer_instance
instance recvPay_storable (c : Dev nD) (s) : BI.Storable (upEmb : UEmb _ 𝕄) (recvPay (F := F) m ρ c s) := by unfold recvPay; infer_instance
instance payOf_storable (c : Dev nD) (i : CI) (d : Bool) : BI.Storable (upEmb : UEmb _ 𝕄) (payOf (F := F) m ρ c i d) := by
  unfold payOf
  rcases i with _ | ⟨_ | _, s⟩
  · cases d
    · show BI.Storable upEmb iprop(emp); infer_instance
    · show BI.Storable upEmb (barPay c); infer_instance
  · show BI.Storable upEmb (sendPay c s); infer_instance
  · show BI.Storable upEmb (recvPay m ρ c s); infer_instance

/-- The duties of a cell. -/
def dutiesOf : CI → Finset Bool
  | none => Finset.univ
  | some _ => {false}
/-- Units per duty. -/
def unitsOf : CI → ℕ
  | none => 1
  | some _ => N

theorem unitsOf_pos (i : CI) : 0 < unitsOf i := by cases i <;> [exact Nat.one_pos; exact N_pos]

/-- One round, every cell once. -/
def plan : Rounds.Schedule (GSem nD τ sig) Bool 𝕄 where
  duties g r := if r = 0 ∧ g.1.2 = .tc then (match role g.2 with | some i => dutiesOf i | none => ∅) else ∅
  unitless _ := False
  amount g _ _ := match role g.2 with | some i => unitsOf i | none => 1
  payload g _ d := match role g.2 with | some i => payOf m ρ g.1.1 i d | none => iprop(emp)
  amount_pos g _ _ _ := by
    show 0 < (match role g.2 with | some i => unitsOf i | none => 1)
    cases role g.2 <;> [exact Nat.one_pos; exact unitsOf_pos _]

instance plan_storable (g : GSem nD τ sig) (r : ℕ) (d : Bool) :
    BI.Storable (upEmb : UEmb _ 𝕄) ((plan (F := F) m ρ).payload g r d) := by
  show BI.Storable upEmb (match role g.2 with | some i => payOf m ρ g.1.1 i d | none => iprop(emp))
  cases role g.2
  · show BI.Storable upEmb iprop(emp); infer_instance
  · show BI.Storable upEmb (payOf m ρ g.1.1 _ d); infer_instance

section Reading

variable (c : Dev nD) (i : CI)

theorem plan_duties : (plan (F := F) m ρ).duties (cell (c, i)) 0 = dutiesOf i := by
  show (if 0 = 0 ∧ (cell (c, i)).1.2 = .tc then (match role (semOf i) with | some i => dutiesOf i | none => ∅) else ∅) = _
  rw [if_pos ⟨rfl, rfl⟩, role_semOf]
theorem plan_later (g : GSem nD τ sig) : ∀ r, 1 ≤ r → (plan (F := F) m ρ).duties g r = ∅ := fun r hr =>
  if_neg fun h => by have := h.1; omega
theorem plan_amount (d : Bool) : (plan (F := F) m ρ).amount (cell (c, i)) 0 d = unitsOf i := by
  show (match role (semOf i) with | some i => unitsOf i | none => 1) = _
  rw [role_semOf]
theorem plan_payload (d : Bool) : (plan (F := F) m ρ).payload (cell (c, i)) 0 d = payOf m ρ c i d := by
  show (match role (semOf i) with | some i => payOf m ρ c i d | none => iprop(emp)) = _
  rw [role_semOf]

theorem expect_bar : (plan (F := F) m ρ).expect (barCell c) 0 = 2 := by
  unfold Schedule.expect Schedule.amountOf
  rw [plan_duties m ρ c none, Finset.sum_congr rfl fun d _ => plan_amount m ρ c none d]; rfl
theorem expect_dma (bs : Bool × Fin 3) : (plan (F := F) m ρ).expect (cell (c, some bs)) 0 = N := by
  unfold Schedule.expect Schedule.amountOf
  rw [plan_duties, Finset.sum_congr rfl fun d _ => plan_amount m ρ c (some bs) d]; exact Finset.sum_singleton _ _

theorem rest_bar : bigSep ((plan (F := F) m ρ).duties (barCell c) 0 \ ∅) (fun d => (plan (F := F) m ρ).payload (barCell c) 0 d)
    = iprop(emp ∗ barPay c) := by
  rw [Finset.sdiff_empty, plan_duties m ρ c none]
  show bigSep Finset.univ _ = _
  rw [bigSep_univ_eq_bigSepL [false, true] (by decide) (by decide), bigSepL_cons_cons, bigSepL_singleton,
    plan_payload m ρ c none, plan_payload m ρ c none]
  rfl
theorem rest_dma (bs : Bool × Fin 3) :
    bigSep ((plan (F := F) m ρ).duties (cell (c, some bs)) 0 \ ∅) (fun d => (plan (F := F) m ρ).payload (cell (c, some bs)) 0 d)
      = payOf m ρ c (some bs) false := by
  rw [Finset.sdiff_empty, plan_duties]
  show bigSep {false} _ = _
  rw [bigSep_singleton, plan_payload]

end Reading

/-! ## What each device owes; levels -/

/-- The copies device `c` still owes after `n` rounds. -/
def owed3 (c : Dev nD) : CellTallies nD τ sig Unit := tallyAt (recvCell (nxt c) 2) () N
def owed2 (c : Dev nD) : CellTallies nD τ sig Unit := owed3 c + tallyAt (recvCell (nxt c) 1) () N
def owed1 (c : Dev nD) : CellTallies nD τ sig Unit := owed2 c + tallyAt (recvCell (nxt c) 0) () N
/-- With the unit it owes `nxt c`'s barrier, and with the one it owes `prv c`'s, paid first. -/
def owedN (c : Dev nD) : CellTallies nD τ sig Unit := owed1 c + tallyAt (barCell (nxt c)) () 1
def owed0 (c : Dev nD) : CellTallies nD τ sig Unit := owedN c + tallyAt (barCell (prv c)) () 1

def Lset (g : GSem nD τ sig) : Finset Unit := if g.1.2 = .tc then {()} else ∅
/-- Barriers at 1, receive cells of round `s` at `2 + s`, everything else at 0. -/
def level (g : GSem nD τ sig) (_ : Unit) : ℕ :=
  match role g.2 with | some none => 1 | some (some (true, s)) => 2 + s.val | _ => 0

theorem Lset_ne (g : GSem nD τ sig) (h : g.1.2 ≠ .tc) : Lset g = ∅ := if_neg h
theorem Lset_tc (c : Dev nD) (sm : SemLoc sig) : Lset ((c : Thread nD τ), sm) = {()} := if_pos rfl

theorem level_bar (c : Dev nD) : level (barCell c) () = 1 := by unfold level; rw [role_bar]
theorem level_recv (c : Dev nD) (s : Fin 3) : level (recvCell c s) () = 2 + s.val := by unfold level; rw [role_recv]
theorem level_send (c : Dev nD) (s : Fin 3) : level (sendCell c s) () = 0 := by unfold level; rw [role_send]

theorem tally_pos {g g' : GSem nD τ sig} {u u' : Unit} {k : ℕ} (h : 0 < (tallyAt g' u' k : CellTallies nD τ sig Unit) g u) : g = g' := by
  by_contra hn
  rw [tallyAt_apply, if_neg fun h' => hn h'.1] at h
  exact Nat.lt_irrefl 0 h

theorem owed3_pos {c : Dev nD} {g u} (h : 0 < owed3 c g u) : g = recvCell (nxt c) 2 := tally_pos h
theorem owed2_pos {c : Dev nD} {g u} (h : 0 < owed2 c g u) : g = recvCell (nxt c) 2 ∨ g = recvCell (nxt c) 1 := by
  unfold owed2 at h; rw [Pi.add_apply, Finsupp.add_apply] at h
  by_cases h3 : 0 < owed3 c g u
  · exact .inl (owed3_pos h3)
  · rw [Nat.eq_zero_of_not_pos h3, Nat.zero_add] at h; exact .inr (tally_pos h)
theorem owed1_pos {c : Dev nD} {g u} (h : 0 < owed1 c g u) : ∃ s : Fin 3, g = recvCell (nxt c) s := by
  unfold owed1 at h; rw [Pi.add_apply, Finsupp.add_apply] at h
  by_cases h2 : 0 < owed2 c g u
  · rcases owed2_pos h2 with h' | h' <;> exact ⟨_, h'⟩
  · rw [Nat.eq_zero_of_not_pos h2, Nat.zero_add] at h; exact ⟨0, tally_pos h⟩
theorem owed0_pos {c : Dev nD} {g u} (h : 0 < owed0 c g u) : (∃ s : Fin 3, g = recvCell (nxt c) s) ∨ ∃ d, g = barCell d := by
  unfold owed0 owedN at h; rw [Pi.add_apply, Finsupp.add_apply, Pi.add_apply, Finsupp.add_apply] at h
  by_cases h1 : 0 < owed1 c g u
  · exact .inl (owed1_pos h1)
  by_cases h2 : 0 < (tallyAt (barCell (nxt c)) () 1 : CellTallies nD τ sig Unit) g u
  · exact .inr ⟨_, tally_pos h2⟩
  · rw [Nat.eq_zero_of_not_pos h1, Nat.zero_add, Nat.eq_zero_of_not_pos h2, Nat.zero_add] at h; exact .inr ⟨prv c, tally_pos h⟩

omit [FloatOps F] in
/-- A device may wait on a cell of its own below everything it owes. -/
theorem may_wait (c : Dev nD) (sm : SemLoc sig) (O : CellTallies nD τ sig Unit) (k : ℕ) (hk : level ((c : Thread nD τ), sm) () ≤ k)
    (hO : ∀ g u, 0 < O g u → k < level g () ∧ g.1.2 = .tc) :
    (levAts Lset level : sProp 𝕄) ⊢ MayWait (c : Thread nD τ) sm () O :=
  MayOwe.of_cut (L := Lset) (lev := level) k (fun p hp => by rw [Finset.mem_singleton.mp hp, Lset_tc]; exact Finset.mem_singleton_self _)
    (fun g u hg => by unfold Lset; rw [if_pos (hO g u hg).2]; exact Finset.mem_singleton_self _)
    (fun p hp => by rw [Finset.mem_singleton.mp hp]; exact hk)
    (fun g u hg => (hO g u hg).1)

omit [FloatOps F] in
theorem wait_bar (c : Dev nD) : (levAts Lset level : sProp 𝕄) ⊢ MayWait (c : Thread nD τ) (.reg barS) () (owed1 c) :=
  may_wait c _ _ 1 (level_bar c).le fun g u hg => by
    obtain ⟨s, rfl⟩ := owed1_pos hg; rw [level_recv]; exact ⟨by omega, rfl⟩
omit [FloatOps F] in
theorem wait_send0 (c : Dev nD) : (levAts Lset level : sProp 𝕄) ⊢ MayWait (c : Thread nD τ) (.dma (sS 0)) () (owed2 c) :=
  may_wait c _ _ 0 (level_send c 0).le fun g u hg => by
    rcases owed2_pos hg with rfl | rfl <;> rw [level_recv] <;> exact ⟨by omega, rfl⟩
omit [FloatOps F] in
theorem wait_recv0 (c : Dev nD) : (levAts Lset level : sProp 𝕄) ⊢ MayWait (c : Thread nD τ) (.dma (vS 0)) () (owed2 c) :=
  may_wait c _ _ 2 (level_recv c 0).le fun g u hg => by
    rcases owed2_pos hg with rfl | rfl <;> rw [level_recv] <;> exact ⟨by decide, rfl⟩
omit [FloatOps F] in
theorem wait_send1 (c : Dev nD) : (levAts Lset level : sProp 𝕄) ⊢ MayWait (c : Thread nD τ) (.dma (sS 1)) () (owed3 c) :=
  may_wait c _ _ 0 (level_send c 1).le fun g u hg => by
    rw [owed3_pos hg, level_recv]; exact ⟨by omega, rfl⟩
omit [FloatOps F] in
theorem wait_recv1 (c : Dev nD) : (levAts Lset level : sProp 𝕄) ⊢ MayWait (c : Thread nD τ) (.dma (vS 1)) () (owed3 c) :=
  may_wait c _ _ 3 (level_recv c 1).le fun g u hg => by
    rw [owed3_pos hg, level_recv]; exact ⟨by decide, rfl⟩
omit [FloatOps F] in
/-- The pipeline's own waits, on its staging semaphores. -/
theorem wait_stage (c : Dev nD) (q : DmaSem sig) (hq : role (.dma q) = none) (O : CellTallies nD τ sig Unit) (hO : O = owed0 c ∨ O = 0) :
    (levAts Lset level : sProp 𝕄) ⊢ MayWait (c : Thread nD τ) (.dma q) () O := by
  rcases hO with rfl | rfl
  · refine may_wait c _ _ 0 (by unfold level; rw [hq]) fun g u hg => ?_
    rcases owed0_pos hg with ⟨s, rfl⟩ | ⟨d, rfl⟩
    · rw [level_recv]; exact ⟨by omega, rfl⟩
    · rw [level_bar]; exact ⟨Nat.one_pos, rfl⟩
  · rw [MayWait_zero]; iintro -; iempintro

/-! ## What a device starts from and ends with -/

section State

variable (K : Dev nD × CI → ℕ)

/-- The invariants of device `c`'s cell `i`. -/
abbrev invOf (ci : Dev nD × CI) : sProp 𝕄 := cellInv embG (plan m ρ) (K ci) (cell ci)

/-- The invariants device `c` opens: all of its own, both neighbours' barriers, `nxt c`'s receive cells. -/
def invsOf (c : Dev nD) : sProp 𝕄 :=
  iprop(invOf m ρ K (c, none) ∗ invOf m ρ K (nxt c, none) ∗ invOf m ρ K (prv c, none)
    ∗ (invOf m ρ K (c, some (false, 0)) ∗ invOf m ρ K (c, some (false, 1)) ∗ invOf m ρ K (c, some (false, 2)))
    ∗ (invOf m ρ K (c, some (true, 0)) ∗ invOf m ρ K (c, some (true, 1)) ∗ invOf m ρ K (c, some (true, 2)))
    ∗ (invOf m ρ K (nxt c, some (true, 0)) ∗ invOf m ρ K (nxt c, some (true, 1)) ∗ invOf m ρ K (nxt c, some (true, 2))))

instance invsOf_persistent (c : Dev nD) : BI.Persistent (invsOf m ρ K c) := by unfold invsOf; infer_instance

/-- That the cells device `c` pays have reached their one round. -/
def marksOf (c : Dev nD) : sProp 𝕄 :=
  iprop(reached embG (barCell (nxt c)) 0 ∗ reached embG (barCell (prv c)) 0
    ∗ (reached embG (sendCell c 0) 0 ∗ reached embG (sendCell c 1) 0 ∗ reached embG (sendCell c 2) 0)
    ∗ (reached embG (recvCell (nxt c) 0) 0 ∗ reached embG (recvCell (nxt c) 1) 0 ∗ reached embG (recvCell (nxt c) 2) 0))

instance marksOf_persistent (c : Dev nD) : BI.Persistent (marksOf (F := F) c) := by unfold marksOf; infer_instance

/-- Device `c`'s positions at its own cells. -/
def posOf (c : Dev nD) : sProp 𝕄 :=
  iprop(atPos embG (barCell c) 0 ∅ 0
    ∗ (atPos embG (sendCell c 0) 0 ∅ 0 ∗ atPos embG (sendCell c 1) 0 ∅ 0 ∗ atPos embG (sendCell c 2) 0 ∅ 0)
    ∗ (atPos embG (recvCell c 0) 0 ∅ 0 ∗ atPos embG (recvCell c 1) 0 ∅ 0 ∗ atPos embG (recvCell c 2) 0 ∅ 0))

/-- The tokens of the duties device `c` pays. -/
def paysOf (c : Dev nD) : sProp 𝕄 :=
  iprop(dutyTok embG (barCell (nxt c)) 0 false ∗ dutyTok embG (barCell (prv c)) 0 true
    ∗ (dutyTok embG (sendCell c 0) 0 false ∗ dutyTok embG (sendCell c 1) 0 false ∗ dutyTok embG (sendCell c 2) 0 false)
    ∗ (dutyTok embG (recvCell (nxt c) 0) 0 false ∗ dutyTok embG (recvCell (nxt c) 1) 0 false ∗ dutyTok embG (recvCell (nxt c) 2) 0 false))

def ghostOf (c : Dev nD) : sProp 𝕄 := iprop(invsOf m ρ K c ∗ marksOf c ∗ posOf c ∗ paysOf c)

end State

/-- The credit device `c` waits with. -/
def credOf (c : Dev nD) : sProp 𝕄 :=
  iprop(cred (tallyAt (barCell c) () 2) ∗ (cred (tallyAt (recvCell c 0) () N) ∗ cred (tallyAt (recvCell c 1) () N) ∗ cred (tallyAt (recvCell c 2) () N)))

def startOf (c : Dev nD) : sProp 𝕄 := iprop((∃ K, ghostOf m ρ K c) ∗ credOf c ∗ levAts Lset level)

/-- The scratch buffers, at whatever contents. -/
def scratchOf (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

/-- All of device `c`'s counters at zero again. -/
def zerosOf (c : Dev nD) : sProp 𝕄 :=
  iprop(semVal (barCell c) 0 ∗ (semVal (sendCell c 0) 0 ∗ semVal (sendCell c 1) 0 ∗ semVal (sendCell c 2) 0)
    ∗ (semVal (recvCell c 0) 0 ∗ semVal (recvCell c 1) 0 ∗ semVal (recvCell c 2) 0))

def before (c : Dev nD) : sProp 𝕄 := iprop(startOf m ρ c ∗ scratchOf c)
def afterwards (c : Dev nD) : sProp 𝕄 := iprop(scratchOf c ∗ zerosOf c)

/-- The pipeline's proof data: one point, the four arguments left in place, the result `acc3`. -/
def dats (_ : Fin 1) (c : Dev nD) : Dat τ (Elt F) Unit ℕ AllU ℕ cfg0 c where
  A w := (start₀ m ρ).mem ((cfg0.win w).arr.view.loc (c : Thread nD τ))
  after w _ := match w with
    | ⟨0, _⟩ => xOf m ρ c
    | ⟨1, _⟩ => wOf m ρ c
    | ⟨2, _⟩ => iOf m ρ c
    | ⟨3, _⟩ => eOf m ρ c
    | ⟨4, _⟩ => acc3 m ρ c
  Φ t := match t with
    | ⟨0, _⟩ => before m ρ c
    | ⟨_ + 1, _⟩ => afterwards c
  q _ := fullShare
  owed t := match t with
    | ⟨0, _⟩ => owed0 c
    | ⟨_ + 1, _⟩ => 0

abbrev 𝒱₀ : Variants := Variants.none

end Cert.Moe

end
-- ==== Proof.Body.lean ====
/-
# The kernel's body on one device

The body is run one effect at a time in program order: both barrier signals, the barrier wait, the loads of the
four arguments and the store of the device's own contribution, and three rounds of store, copy, wait for the copy,
wait for the landing; then the result is stored.
-/
module

public import proofs.«01_k».proof.Proof.Protocol
public import Idealize.ShloMosaic.Lib.Pipeline.Value

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## Reading and writing the slots -/

omit [FloatOps F] in
theorem hz2 : (![0, 0] : Fin 2 → Nat) = fun _ => 0 := funext fun a => by fin_cases a <;> rfl

theorem send_sub (s : Fin 3) : ((Memref.whole cc0_scratch1 : Memref sig .tc _ _ _).access (slotR s)).set ⊆ (sendM s).view.set := by
  rw [sendM_set]; exact (View.set_slice_whole cc0_scratch1 (slotR s)).subset
theorem recv_sub (s : Fin 3) : ((Memref.whole cc0_scratch2 : Memref sig .tc _ _ _).access (slotR s)).set ⊆ (recvM s).view.set := by
  rw [recvM_set]; exact (View.set_slice_whole cc0_scratch2 (slotR s)).subset

omit [FloatOps F] in
/-- A slot just stored, read as the copy reads it. -/
theorem read_stored (s : Fin 3) (f : (cc0_scratch1 : Ref sig .tc).ty.Contents (Elt F)) (w : Vec F S256x512 .f32) :
    (sendM s).view.read (Elt F) (((Memref.whole cc0_scratch1 : Memref sig .tc _ _ _).access (slotR s)).write (Elt F) f
      (shapeCast S1x256x512 w shapeCasts_S256x512_S1x256x512) Finset.univ) = w := by
  show shapeCast S256x512 (((Memref.whole cc0_scratch1 : Memref sig .tc _ _ _).access (slotR s)).read (Elt F)
    (((Memref.whole cc0_scratch1 : Memref sig .tc _ _ _).access (slotR s)).write (Elt F) f
      (shapeCast S1x256x512 w shapeCasts_S256x512_S1x256x512) Finset.univ)) shapeCasts_S1x256x512_S256x512 = w
  rw [View.read_write_univ]
  exact shapeCast_shapeCast w _ _

omit [FloatOps F] in
/-- A slot loaded and flattened is the slot read as the copy wrote it. -/
theorem load_flat (s : Fin 3) (f : (cc0_scratch2 : Ref sig .tc).ty.Contents (Elt F)) :
    shapeCast S256x512 (((Memref.whole cc0_scratch2 : Memref sig .tc _ _ _).access (slotR s)).read (Elt F) f) shapeCasts_S1x256x512_S256x512
      = (recvM s).view.read (Elt F) f := rfl

section Steps

variable (K : Dev nD × CI → ℕ)

/-- The copy of round `s`, to `n = nxt c`. -/
theorem copy_step (s : Fin 3) (c n : Dev nD) (hn : n = nxt c)
    {hsc : (recvM s : Memref sig (Dev.tc n : Thread nD τ).2.kind .vmem S256x512 .f32).view.ref.isScScratch = false}
    {hsrc : (sendM s).view.WordExact} {hdst : (recvM s : Memref sig (Dev.tc n : Thread nD τ).2.kind .vmem S256x512 .f32).view.WordExact}
    {hsem : DmaTarget.Typed .vmem (.dma (vS s)) (.remote (Dev.tc n : Thread nD τ) (recvM s : Memref sig .tc .vmem S256x512 .f32) (.dma (sS s)) hsc)}
    {α : Type} {Q : α → sProp 𝕄} {k : PUnit → Prog (TpuEff nD τ sig (Elt F) Λ₀ .tc) α}
    (fs : Buf (Elt F) ((c : Thread nD τ).loc cc0_scratch1)) (fd : Buf (Elt F) ((nxt c : Thread nD τ).loc cc0_scratch2))
    (hfs : (sendM s).view.read (Elt F) fs = sent m ρ c s)
    (O O' : CellTallies nD τ sig Unit) (hO : O' = O + tallyAt (recvCell (nxt c) s) () N) (W : Waits sig Unit) :
    iprop(invOf m ρ K (c, some (false, s)) ∗ invOf m ρ K (nxt c, some (true, s))
        ∗ sendAt c s fs ∗ recvAt (nxt c) s fd
        ∗ owes (c : Thread nD τ) O' W
        ∗ dutyTok embG (sendCell c s) 0 false ∗ reached embG (sendCell c s) 0
        ∗ dutyTok embG (recvCell (nxt c) s) 0 false ∗ reached embG (recvCell (nxt c) s) 0)
      ⊢ iprop(((cred (tallyAt (sendCell c s) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sendM s) (.remote (Dev.tc n : Thread nD τ) (recvM s) (.dma (sS s)) hsc) (.dma (vS s)) hsrc hdst hsem) k) Q) := by
  subst hn
  unfold sendAt recvAt
  exact Rounds.wp_send_pointsTo 𝒱₀ embG (plan m ρ) (c : Thread nD τ) none (c' := (nxt c : Thread nD τ)) (src := sendM s) (dst := recvM s)
    (sS := .dma (sS s)) (sem := .dma (vS s)) (κ₁ := K (c, some (false, s))) (κ₂ := K (nxt c, some (true, s)))
    (r₁ := 0) (r₂ := 0) (d₁ := false) (d₂ := false) (fs := fs) (fd := fd) (O₀ := O') (q := fullShare) (W := W)
    (by rw [plan_duties m ρ c (some (false, s))]; exact Finset.mem_singleton_self _)
    (by rw [plan_duties m ρ (nxt c) (some (true, s))]; exact Finset.mem_singleton_self _)
    () () N (N_recv s) ((plan_amount m ρ c (some (false, s)) false).trans rfl)
    ((plan_amount m ρ (nxt c) (some (true, s)) false).trans rfl) O hO
    (by
      rw [plan_payload m ρ c (some (false, s))]
      show _ ⊢ sendPay c s
      unfold sendPay sendAt
      iintro H; iexists fs; iexact H)
    (by
      rw [plan_payload m ρ (nxt c) (some (true, s))]
      show _ ⊢ recvPay m ρ (nxt c) s
      unfold recvPay recvAt
      iintro H
      iexists _
      isplitr; rotate_left
      · iexact H
      · ipureintro; rw [View.read_write_univ, hfs, prv_nxt])

/-- The wait for the copy of round `s` to have left. -/
theorem sent_step (s : Fin 3) (c : Dev nD)
    {α : Type} {Q : α → sProp 𝕄} {k : PUnit → Prog (TpuEff nD τ sig (Elt F) Λ₀ .tc) α}
    {src : Memref sig .tc .vmem S256x512 .f32} {h1 : src.view.WordExact} {h2 : (sendM s).view.WordExact}
    (O : CellTallies nD τ sig Unit) (W : Waits sig Unit)
    (hw : (levAts Lset level : sProp 𝕄) ⊢ MayWait (c : Thread nD τ) (.dma (sS s)) () O) :
    iprop(invOf m ρ K (c, some (false, s)) ∗ cred (tallyAt (sendCell c s) () N) ∗ owes (c : Thread nD τ) O W ∗ levAts Lset level
        ∗ atPos embG (sendCell c s) 0 ∅ 0)
      ⊢ iprop(((owes (c : Thread nD τ) O (insert (SemLoc.dma (sS s), ()) W) ∗ semVal (sendCell c s) 0 ∗ ∃ f, sendAt c s f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sS s) src (sendM s) h1 h2) k) Q) := by
  iintro ⟨#HI, Hc, HO, #Hlev, Hat⟩ Hk
  iapply (Rounds.wp_wait_rest_token 𝒱₀ embG (plan m ρ) (c : Thread nD τ) none (κ := K (c, some (false, s)))
      (wpE_waitDma2_eq 𝒱₀ (c : Thread nD τ) none Set.univ) (Set.mem_univ _) () (O := O) (W := W) (R := 0) (m := 0) (T := ∅)
      (by rw [Nat.zero_add]; exact (expect_dma m ρ c (false, s)).symm)) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq (rest_dma m ρ c (false, s))) $$ Hpay
  imod (Rounds.cell_close embG (plan m ρ) (Set.mem_univ (K (c, some (false, s)))) (fun h => h) (R := 0 + 1) (plan_later m ρ (sendCell c s))) $$ [Hat] with Hz
  · isplitr; · iexact HI
    iexact Hat
  iapply Hk
  isplitl [HO]; · iexact HO
  isplitl [Hz]; · iexact Hz
  iapply (Entails.of_eq (show payOf m ρ c (some (false, s)) false = iprop(∃ f, sendAt c s f) from rfl)) $$ Hp

/-- The wait for the landing of round `s`. -/
theorem landed_step (s : Fin 3) (c : Dev nD)
    {α : Type} {Q : α → sProp 𝕄} {k : PUnit → Prog (TpuEff nD τ sig (Elt F) Λ₀ .tc) α}
    {src : Memref sig .tc .vmem S256x512 .f32} {h1 : src.view.WordExact} {h2 : (recvM s).view.WordExact}
    (O : CellTallies nD τ sig Unit) (W : Waits sig Unit)
    (hw : (levAts Lset level : sProp 𝕄) ⊢ MayWait (c : Thread nD τ) (.dma (vS s)) () O) :
    iprop(invOf m ρ K (c, some (true, s)) ∗ cred (tallyAt (recvCell c s) () N) ∗ owes (c : Thread nD τ) O W ∗ levAts Lset level
        ∗ atPos embG (recvCell c s) 0 ∅ 0)
      ⊢ iprop(((owes (c : Thread nD τ) O (insert (SemLoc.dma (vS s), ()) W) ∗ semVal (recvCell c s) 0
              ∗ ∃ f, ⌜(recvM s).view.read (Elt F) f = sent m ρ (prv c) s⌝ ∗ recvAt c s f)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (vS s) src (recvM s) h1 h2) k) Q) := by
  iintro ⟨#HI, Hc, HO, #Hlev, Hat⟩ Hk
  iapply (Rounds.wp_wait_rest_token 𝒱₀ embG (plan m ρ) (c : Thread nD τ) none (κ := K (c, some (true, s)))
      (wpE_waitDma2_eq 𝒱₀ (c : Thread nD τ) none Set.univ) (Set.mem_univ _) () (O := O) (W := W) (R := 0) (m := 0) (T := ∅)
      (by rw [Nat.zero_add]; exact (expect_dma m ρ c (true, s)).symm)) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq (rest_dma m ρ c (true, s))) $$ Hpay
  imod (Rounds.cell_close embG (plan m ρ) (Set.mem_univ (K (c, some (true, s)))) (fun h => h) (R := 0 + 1) (plan_later m ρ (recvCell c s))) $$ [Hat] with Hz
  · isplitr; · iexact HI
    iexact Hat
  iapply Hk
  isplitl [HO]; · iexact HO
  isplitl [Hz]; · iexact Hz
  iapply (Entails.of_eq (show payOf m ρ c (some (true, s)) false = iprop(∃ f, ⌜(recvM s).view.read (Elt F) f = sent m ρ (prv c) s⌝ ∗ recvAt c s f) from rfl)) $$ Hp

/-- Loading a send slot: what is read is not used. -/
theorem peek_send (s : Fin 3) (c : Dev nD) {α : Type} {Q : α → sProp 𝕄}
    {hl : (Memref.whole cc0_scratch1 : Memref sig .tc .vmem S3x256x512 .f32).view.LoadsAt (slotR s).toLoadRect}
    {k : (S1x256x512.Idx → Elt F .f32) → Prog (TpuEff nD τ sig (Elt F) Λ₀ .tc) α} (f) :
    sendAt c s f ⊢ iprop((∀ v, sendAt c s f -∗ wp frame (wpE (defs₀ (F := F)) 𝒱₀ (c : Thread nD τ) none) Set.univ (k v) Q)
        -∗ wp frame (wpE (defs₀ (F := F)) 𝒱₀ (c : Thread nD τ) none) Set.univ (.op (.load (Memref.whole cc0_scratch1) (slotR s).toLoadRect hl) k) Q) := by
  unfold sendAt
  iintro H Hk
  iapply (wp_load_rect 𝒱₀ (c : Thread nD τ) none Set.univ (m := Memref.whole cc0_scratch1) (r := slotR s) (send_sub s)) $$ H
  iintro H
  iapply Hk $$ %_ H

/-- Storing a send slot: the copy will read `w`. -/
theorem put_send (s : Fin 3) (c : Dev nD) {α : Type} {Q : α → sProp 𝕄} (w : Vec F S256x512 .f32)
    {hx : ((Memref.whole cc0_scratch1 : Memref sig .tc .vmem S3x256x512 .f32).access (slotR s)).Stores Finset.univ} {hm}
    {k : PUnit → Prog (TpuEff nD τ sig (Elt F) Λ₀ .tc) α} (f) :
    sendAt c s f ⊢ iprop((∀ g, ⌜(sendM s).view.read (Elt F) g = w⌝ -∗ sendAt c s g
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch1) (slotR s) (shapeCast S1x256x512 w shapeCasts_S256x512_S1x256x512) Finset.univ hx hm) k) Q) := by
  unfold sendAt
  iintro H Hk
  iapply (wp_store 𝒱₀ (c : Thread nD τ) none Set.univ (m := Memref.whole cc0_scratch1) (r := slotR s) (Mk := Finset.univ) (send_sub s)) $$ H
  iintro H
  iapply Hk $$ %_ [] H
  ipureintro; exact read_stored s f w

/-- Loading a receive slot: flattened, it is what the copy wrote. -/
theorem take_recv (s : Fin 3) (c : Dev nD) {α : Type} {Q : α → sProp 𝕄}
    {hl : (Memref.whole cc0_scratch2 : Memref sig .tc .vmem S3x256x512 .f32).view.LoadsAt (slotR s).toLoadRect}
    {k : (S1x256x512.Idx → Elt F .f32) → Prog (TpuEff nD τ sig (Elt F) Λ₀ .tc) α} (f) :
    recvAt c s f ⊢ iprop((∀ v : Vec F S1x256x512 .f32, ⌜shapeCast S256x512 v shapeCasts_S1x256x512_S256x512 = (recvM s).view.read (Elt F) f⌝ -∗ recvAt c s f
          -∗ wp frame (wpE (defs₀ (F := F)) 𝒱₀ (c : Thread nD τ) none) Set.univ (k v) Q)
        -∗ wp frame (wpE (defs₀ (F := F)) 𝒱₀ (c : Thread nD τ) none) Set.univ (.op (.load (Memref.whole cc0_scratch2) (slotR s).toLoadRect hl) k) Q) := by
  unfold recvAt
  iintro H Hk
  iapply (wp_load_rect 𝒱₀ (c : Thread nD τ) none Set.univ (m := Memref.whole cc0_scratch2) (r := slotR s) (recv_sub s)) $$ H
  iintro H
  iapply Hk $$ %_ [] H
  ipureintro; exact load_flat s f

/-- Loading the whole of `x` reads it; so for the router's weights. -/
theorem load_x (c : Dev nD) {α : Type} {Q : α → sProp 𝕄} {inb}
    {hl : (Memref.whole cc0_stg0_0 : Memref sig .tc .vmem S1024x256 .bf16).view.LoadsAt (Rect.unit (s := S1024x256) ![0, 0] S1024x256.size inb).toLoadRect}
    {k : (S1024x256.Idx → Elt F .bf16) → Prog (TpuEff nD τ sig (Elt F) Λ₀ .tc) α} (f : (cc0_stg0_0 : Ref sig .tc).ty.Contents (Elt F)) :
    ((c : Thread nD τ).loc cc0_stg0_0 ↦{fullShare} f : sProp 𝕄)
      ⊢ iprop((∀ v, ⌜v = f⌝ -∗ ((c : Thread nD τ).loc cc0_stg0_0 ↦{fullShare} f)
          -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_stg0_0) (Rect.unit (s := S1024x256) ![0, 0] S1024x256.size inb).toLoadRect hl) k) Q) := by
  iintro H Hk
  iapply (wp_load 𝒱₀ (c : Thread nD τ) none Set.univ (m := Memref.whole cc0_stg0_0) (Finset.subset_univ _)) $$ H
  iintro H
  iapply Hk $$ %_ [] H
  ipureintro; exact Memref.readAt_unit_zero (Elt F) cc0_stg0_0 hz2 inb f

/-- Loading the whole of the router's weights. -/
theorem load_w (c : Dev nD) {α : Type} {Q : α → sProp 𝕄} {inb}
    {hl : (Memref.whole cc0_stg1_0 : Memref sig .tc .vmem S256x16 .bf16).view.LoadsAt (Rect.unit (s := S256x16) ![0, 0] S256x16.size inb).toLoadRect}
    {k : (S256x16.Idx → Elt F .bf16) → Prog (TpuEff nD τ sig (Elt F) Λ₀ .tc) α} (f : (cc0_stg1_0 : Ref sig .tc).ty.Contents (Elt F)) :
    ((c : Thread nD τ).loc cc0_stg1_0 ↦{fullShare} f : sProp 𝕄)
      ⊢ iprop((∀ v, ⌜v = f⌝ -∗ ((c : Thread nD τ).loc cc0_stg1_0 ↦{fullShare} f)
          -∗ wp frame (wpE (defs₀ (F := F)) 𝒱₀ (c : Thread nD τ) none) Set.univ (k v) Q)
        -∗ wp frame (wpE (defs₀ (F := F)) 𝒱₀ (c : Thread nD τ) none) Set.univ
            (.op (.load (Memref.whole cc0_stg1_0) (Rect.unit (s := S256x16) ![0, 0] S256x16.size inb).toLoadRect hl) k) Q) := by
  iintro H Hk
  iapply (wp_load 𝒱₀ (c : Thread nD τ) none Set.univ (m := Memref.whole cc0_stg1_0) (Finset.subset_univ _)) $$ H
  iintro H
  iapply Hk $$ %_ [] H
  ipureintro; exact Memref.readAt_unit_zero (Elt F) cc0_stg1_0 hz2 inb f

/-- Storing the device's contribution, and its result, leaves what was stored. -/
theorem store_part (c : Dev nD) {α : Type} {Q : α → sProp 𝕄} {inb} (w : (cc0_scratch0 : Ref sig .tc).ty.Contents (Elt F))
    {hx : ((Memref.whole cc0_scratch0 : Memref sig .tc .vmem S1024x512 .f32).access (Rect.unit (s := S1024x512) ![0, 0] S1024x512.size inb)).Stores Finset.univ} {hm}
    {k : PUnit → Prog (TpuEff nD τ sig (Elt F) Λ₀ .tc) α} (f : (cc0_scratch0 : Ref sig .tc).ty.Contents (Elt F)) :
    ((c : Thread nD τ).loc cc0_scratch0 ↦{fullShare} f : sProp 𝕄)
      ⊢ iprop((((c : Thread nD τ).loc cc0_scratch0 ↦{fullShare} w)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_scratch0) (Rect.unit (s := S1024x512) ![0, 0] S1024x512.size inb) w Finset.univ hx hm) k) Q) := by
  iintro H Hk
  iapply (wp_store 𝒱₀ (c : Thread nD τ) none Set.univ (m := Memref.whole cc0_scratch0) (r := Rect.unit (s := S1024x512) ![0, 0] S1024x512.size inb) (Mk := Finset.univ) (Finset.subset_univ _)) $$ H
  iintro H
  iapply Hk
  iapply (Entails.of_eq (congrArg (fun g => ((c : Thread nD τ).loc cc0_scratch0 ↦{fullShare} g : sProp 𝕄))
    (Memref.write_access_unit_zero_univ (Elt F) cc0_scratch0 hz2 inb f w))) $$ H

/-- Storing the result. -/
theorem store_out (c : Dev nD) {α : Type} {Q : α → sProp 𝕄} {inb} (w : (cc0_stg4_0 : Ref sig .tc).ty.Contents (Elt F))
    {hx : ((Memref.whole cc0_stg4_0 : Memref sig .tc .vmem S256x512 .f32).access (Rect.unit (s := S256x512) ![0, 0] S256x512.size inb)).Stores Finset.univ} {hm}
    {k : PUnit → Prog (TpuEff nD τ sig (Elt F) Λ₀ .tc) α} (f : (cc0_stg4_0 : Ref sig .tc).ty.Contents (Elt F)) :
    ((c : Thread nD τ).loc cc0_stg4_0 ↦{fullShare} f : sProp 𝕄)
      ⊢ iprop((((c : Thread nD τ).loc cc0_stg4_0 ↦{fullShare} w)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store (Memref.whole cc0_stg4_0) (Rect.unit (s := S256x512) ![0, 0] S256x512.size inb) w Finset.univ hx hm) k) Q) := by
  iintro H Hk
  iapply (wp_store 𝒱₀ (c : Thread nD τ) none Set.univ (m := Memref.whole cc0_stg4_0) (r := Rect.unit (s := S256x512) ![0, 0] S256x512.size inb) (Mk := Finset.univ) (Finset.subset_univ _)) $$ H
  iintro H
  iapply Hk
  iapply (Entails.of_eq (congrArg (fun g => ((c : Thread nD τ).loc cc0_stg4_0 ↦{fullShare} g : sProp 𝕄))
    (Memref.write_access_unit_zero_univ (Elt F) cc0_stg4_0 hz2 inb f w))) $$ H

end Steps

end Cert.Moe

end
-- ==== Proof.Run.lean ====
/-
# The body's run, and the pipeline's body obligation
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

omit [FloatOps F] in
theorem owns_whole (c : Dev nD) (b : Ref sig .tc) (X : b.ty.Contents (Elt F)) :
    (owns (Ix := Unit) (Name := ℕ) (U := AllU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer holding `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem fetched0 (t : Fin cfg0.N) : (cfg0.win (0 : Fin 5)).fetch t = true := by rw [fin_N0 t]; rfl
theorem fetched1 (t : Fin cfg0.N) : (cfg0.win (1 : Fin 5)).fetch t = true := by rw [fin_N0 t]; rfl
theorem fetched2 (t : Fin cfg0.N) : (cfg0.win (2 : Fin 5)).fetch t = true := by rw [fin_N0 t]; rfl
theorem fetched3 (t : Fin cfg0.N) : (cfg0.win (3 : Fin 5)).fetch t = true := by rw [fin_N0 t]; rfl

theorem found0 (c : Dev nD) (d) : (dats (F := F) m ρ 0 c).before (0 : Fin 5) t0_0 d = xOf m ρ c := by
  unfold Dat.before; rw [if_pos (fetched0 t0_0)]; rfl
theorem found1 (c : Dev nD) (d) : (dats (F := F) m ρ 0 c).before (1 : Fin 5) t0_0 d = wOf m ρ c := by
  unfold Dat.before; rw [if_pos (fetched1 t0_0)]; rfl
theorem found2 (c : Dev nD) (d) : (dats (F := F) m ρ 0 c).before (2 : Fin 5) t0_0 d = iOf m ρ c := by
  unfold Dat.before; rw [if_pos (fetched2 t0_0)]; rfl
theorem found3 (c : Dev nD) (d) : (dats (F := F) m ρ 0 c).before (3 : Fin 5) t0_0 d = eOf m ρ c := by
  unfold Dat.before; rw [if_pos (fetched3 t0_0)]; rfl

section Run

variable (K : Dev nD × CI → ℕ)

/-- What the body is entered with, the names of the invariants fixed; -/
def entry (c : Dev nD) : sProp 𝕄 :=
  iprop((ghostOf m ρ K c ∗ credOf c ∗ levAts Lset level ∗ scratchOf c)
    ∗ (dats m ρ 0 c).owesAt () t0_0.castSucc
    ∗ (∃ d, holds c cc0_stg0_0 ((dats m ρ 0 c).before (0 : Fin 5) t0_0 d))
    ∗ (∃ d, holds c cc0_stg1_0 ((dats m ρ 0 c).before (1 : Fin 5) t0_0 d))
    ∗ (∃ d, holds c cc0_stg2_0 ((dats m ρ 0 c).before (2 : Fin 5) t0_0 d))
    ∗ (∃ d, holds c cc0_stg3_0 ((dats m ρ 0 c).before (3 : Fin 5) t0_0 d))
    ∗ (∃ d, holds c cc0_stg4_0 ((dats m ρ 0 c).before (4 : Fin 5) t0_0 d)))

/-- and what it leaves. -/
def leave (c : Dev nD) : sProp 𝕄 :=
  iprop(afterwards c ∗ (dats m ρ 0 c).owesAt () t0_0.succ
    ∗ holds c cc0_stg0_0 (xOf m ρ c) ∗ holds c cc0_stg1_0 (wOf m ρ c) ∗ holds c cc0_stg2_0 (iOf m ρ c)
    ∗ holds c cc0_stg3_0 (eOf m ρ c) ∗ holds c cc0_stg4_0 (acc3 m ρ c))

set_option maxHeartbeats 4000000 in
set_option maxRecDepth 65536 in
/-- The body, run from `entry` to `leave`. -/
theorem body_run (c : Dev nD) (Kt : PUnit → sProp 𝕄) :
    iprop(entry m ρ K c ∗ (leave m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId,
    send_sem0, send_sem1, send_sem2, recv_sem0, recv_sem1, recv_sem2]
  unfold entry ghostOf invsOf marksOf posOf paysOf credOf scratchOf
  iintro ⟨⟨⟨⟨⟨#IB, #IBn, #IBp, ⟨#IS0, #IS1, #IS2⟩, ⟨#IV0, #IV1, #IV2⟩, ⟨#IN0, #IN1, #IN2⟩⟩,
      ⟨#MBn, #MBp, ⟨#MS0, #MS1, #MS2⟩, ⟨#MN0, #MN1, #MN2⟩⟩,
      ⟨AB, ⟨AS0, AS1, AS2⟩, ⟨AV0, AV1, AV2⟩⟩,
      ⟨TBn, TBp, ⟨TS0, TS1, TS2⟩, ⟨TN0, TN1, TN2⟩⟩⟩,
      ⟨CB, ⟨CV0, CV1, CV2⟩⟩, #Hlev, ⟨%p0, Hp⟩, ⟨%s0, Hs⟩, ⟨%v0, Hv⟩⟩,
    Ho, ⟨%d0, %g0, %hg0, Hx⟩, ⟨%d1, %g1, %hg1, Hw⟩, ⟨%d2, %g2, %hg2, Hi⟩, ⟨%d3, %g3, %hg3, He⟩, ⟨%d4, %g4, %hg4, Hr⟩⟩, Hk⟩
  rw [found0] at hg0; rw [found1] at hg1; rw [found2] at hg2; rw [found3] at hg3
  subst hg0 hg1 hg2 hg3
  unfold Dat.owesAt Pipeline.owesWithin
  icases Ho with ⟨%W, %hW, HO⟩
  rw [show (dats m ρ 0 c).owed t0_0.castSucc = owed0 c from rfl]
  simp only [dev1_eq c, dev2_eq c]
  -- the signal to `prv c`: `c`'s receive buffer goes with it
  iapply (Rounds.wp_signal 𝒱₀ embG (plan m ρ) (c : Thread nD τ) none (dst := (prv c : Thread nD τ)) (κ := K (prv c, none))
      (d := true) (by rw [plan_duties m ρ (prv c) none]; exact Finset.mem_univ _) ((plan_amount m ρ (prv c) none true).trans (by decide)) () (owedN c) rfl)
    $$ [HO TBp Hv]
  · isplitr; · iexact IBp
    isplitl [HO]; · iexact HO
    isplitl [TBp]; · iexact TBp
    isplitl [Hv]
    · rw [plan_payload m ρ (prv c) none]
      iapply (show iprop(∃ f : Buf (Elt F) ((nxt (prv c) : Thread nD τ).loc cc0_scratch2), (nxt (prv c) : Thread nD τ).loc cc0_scratch2 ↦{fullShare} f)
        ⊢ payOf m ρ (prv c) none true from BI.Entails.refl _)
      rw [nxt_prv]; iexists v0; iexact Hv
    · iexact MBp
  iintro HO
  -- the signal to `nxt c`: nothing goes with it
  iapply (Rounds.wp_signal 𝒱₀ embG (plan m ρ) (c : Thread nD τ) none (dst := (nxt c : Thread nD τ)) (κ := K (nxt c, none))
      (d := false) (by rw [plan_duties m ρ (nxt c) none]; exact Finset.mem_univ _) ((plan_amount m ρ (nxt c) none false).trans (by decide)) () (owed1 c) rfl)
    $$ [HO TBn]
  · isplitr; · iexact IBn
    isplitl [HO]; · iexact HO
    isplitl [TBn]; · iexact TBn
    isplitr
    · rw [plan_payload m ρ (nxt c) none]
      iapply (show iprop(emp) ⊢ payOf m ρ (nxt c) none false from BI.Entails.refl _)
      iempintro
    · iexact MBn
  iintro HO
  -- the barrier wait: `nxt c`'s receive buffer comes with it
  iapply (Rounds.wp_wait_rest_token 𝒱₀ embG (plan m ρ) (c : Thread nD τ) none (κ := K (c, none))
      (wpE_semWait_eq 𝒱₀ (c : Thread nD τ) none Set.univ) (Set.mem_univ _) () (O := owed1 c) (W := W) (R := 0) (m := 0) (T := ∅)
      (by rw [expect_bar m ρ c]; decide)) $$ [CB HO AB]
  · isplitr; · iexact IB
    isplitl [CB]; · iexact CB
    isplitl [HO]; · iexact HO
    isplitr; · iapply (wait_bar c); iexact Hlev
    iexact AB
  iintro ⟨HO, AB, -, Hpay⟩
  ihave Hpay := (Entails.of_eq (rest_bar m ρ c)) $$ Hpay
  unfold barPay
  icases Hpay with ⟨-, ⟨%fn, Hn⟩⟩
  imod (Rounds.cell_close embG (plan m ρ) (Set.mem_univ (K (c, none))) (fun h => h) (R := 0 + 1) (plan_later m ρ (barCell c))) $$ [AB] with ZB
  · isplitr; · iexact IB
    iexact AB
  ihave Hn := (Entails.of_eq (recv_slots (F := F) (nxt c) fn)) $$ Hn
  icases Hn with ⟨Hn0, Hn1, Hn2⟩
  ihave Hs := (Entails.of_eq (send_slots (F := F) c s0)) $$ Hs
  icases Hs with ⟨Hs0, Hs1, Hs2⟩
  -- the loads of the arguments
  iapply (load_x c (xOf m ρ c)) $$ Hx; iintro %lx %hlx Hx; subst hlx
  iapply (load_w c (wOf m ρ c)) $$ Hw; iintro %lw %hlw Hw; subst hlw
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  iapply (wp_load 𝒱₀ (c : Thread nD τ) none Set.univ (m := Memref.whole cc0_stg3_0) (Finset.subset_univ _)) $$ He; iintro He
  -- the device's own contribution
  iapply (wp_load 𝒱₀ (c : Thread nD τ) none Set.univ (m := Memref.whole cc0_scratch0) (Finset.subset_univ _)) $$ Hp; iintro Hp
  iapply (store_part c (part m ρ c) p0) $$ Hp; iintro Hp
  iapply (wp_load 𝒱₀ (c : Thread nD τ) none Set.univ (m := Memref.whole cc0_scratch0) (Finset.subset_univ _)) $$ Hp; iintro Hp
  -- round 0
  iapply (peek_send 0 c s0) $$ Hs0
  iintro %_ Hs0
  iapply (put_send 0 c (acc0 m ρ c) s0) $$ Hs0
  iintro %a0 %ha0 Hs0
  iapply (copy_step m ρ K 0 c _ (dev3_eq c) a0 fn ha0 (owed2 c) (owed1 c) rfl (insert (SemLoc.reg barS, ()) W)) $$ [Hs0 Hn0 HO TS0 TN0]
  · isplitr; · iexact IS0
    isplitr; · iexact IN0
    isplitl [Hs0]; · iexact Hs0
    isplitl [Hn0]; · iexact Hn0
    isplitl [HO]; · iexact HO
    isplitl [TS0]; · iexact TS0
    isplitr; · iexact MS0
    isplitl [TN0]; · iexact TN0
    iexact MN0
  iintro ⟨CS0, HO⟩
  iapply (sent_step m ρ K 0 c (owed2 c) _ (wait_send0 c)) $$ [CS0 HO AS0]
  · isplitr; · iexact IS0
    isplitl [CS0]; · iexact CS0
    isplitl [HO]; · iexact HO
    isplitr; · iexact Hlev
    iexact AS0
  iintro ⟨HO, ZS0, ⟨%b0, Hs0⟩⟩
  iapply (landed_step m ρ K 0 c (owed2 c) _ (wait_recv0 c)) $$ [CV0 HO AV0]
  · isplitr; · iexact IV0
    isplitl [CV0]; · iexact CV0
    isplitl [HO]; · iexact HO
    isplitr; · iexact Hlev
    iexact AV0
  iintro ⟨HO, ZV0, ⟨%l0, %hl0, Hv0⟩⟩
  iapply (take_recv 0 c l0) $$ Hv0
  iintro %u0 %hu0 Hv0
  iapply (wp_load 𝒱₀ (c : Thread nD τ) none Set.univ (m := Memref.whole cc0_scratch0) (Finset.subset_univ _)) $$ Hp; iintro Hp
  -- round 1
  have e1 : addf (shapeCast S256x512 u0 shapeCasts_S1x256x512_S256x512) (chunkAt c 0 (part m ρ c)) = acc1 m ρ c := by
    rw [hu0, hl0]; rfl
  iapply (peek_send 1 c s0) $$ Hs1
  iintro %_ Hs1
  iapply (put_send 1 c (addf (shapeCast S256x512 u0 shapeCasts_S1x256x512_S256x512) (chunkAt c 0 (part m ρ c))) s0) $$ Hs1
  iintro %a1 %ha1 Hs1
  rw [e1] at ha1
  iapply (copy_step m ρ K 1 c _ (dev4_eq c) a1 fn ha1 (owed3 c) (owed2 c) rfl _) $$ [Hs1 Hn1 HO TS1 TN1]
  · isplitr; · iexact IS1
    isplitr; · iexact IN1
    isplitl [Hs1]; · iexact Hs1
    isplitl [Hn1]; · iexact Hn1
    isplitl [HO]; · iexact HO
    isplitl [TS1]; · iexact TS1
    isplitr; · iexact MS1
    isplitl [TN1]; · iexact TN1
    iexact MN1
  iintro ⟨CS1, HO⟩
  iapply (sent_step m ρ K 1 c (owed3 c) _ (wait_send1 c)) $$ [CS1 HO AS1]
  · isplitr; · iexact IS1
    isplitl [CS1]; · iexact CS1
    isplitl [HO]; · iexact HO
    isplitr; · iexact Hlev
    iexact AS1
  iintro ⟨HO, ZS1, ⟨%b1, Hs1⟩⟩
  iapply (landed_step m ρ K 1 c (owed3 c) _ (wait_recv1 c)) $$ [CV1 HO AV1]
  · isplitr; · iexact IV1
    isplitl [CV1]; · iexact CV1
    isplitl [HO]; · iexact HO
    isplitr; · iexact Hlev
    iexact AV1
  iintro ⟨HO, ZV1, ⟨%l1, %hl1, Hv1⟩⟩
  iapply (take_recv 1 c l1) $$ Hv1
  iintro %u1 %hu1 Hv1
  iapply (wp_load 𝒱₀ (c : Thread nD τ) none Set.univ (m := Memref.whole cc0_scratch0) (Finset.subset_univ _)) $$ Hp; iintro Hp
  -- round 2
  have e2 : addf (shapeCast S256x512 u1 shapeCasts_S1x256x512_S256x512) (chunkAt c 1 (part m ρ c)) = acc2 m ρ c := by
    rw [hu1, hl1]; rfl
  iapply (peek_send 2 c s0) $$ Hs2
  iintro %_ Hs2
  iapply (put_send 2 c (addf (shapeCast S256x512 u1 shapeCasts_S1x256x512_S256x512) (chunkAt c 1 (part m ρ c))) s0) $$ Hs2
  iintro %a2 %ha2 Hs2
  rw [e2] at ha2
  iapply (copy_step m ρ K 2 c _ (dev5_eq c) a2 fn ha2 0 (owed3 c) (by unfold owed3; rw [zero_add]) _) $$ [Hs2 Hn2 HO TS2 TN2]
  · isplitr; · iexact IS2
    isplitr; · iexact IN2
    isplitl [Hs2]; · iexact Hs2
    isplitl [Hn2]; · iexact Hn2
    isplitl [HO]; · iexact HO
    isplitl [TS2]; · iexact TS2
    isplitr; · iexact MS2
    isplitl [TN2]; · iexact TN2
    iexact MN2
  iintro ⟨CS2, HO⟩
  iapply (sent_step m ρ K 2 c 0 _ (by rw [MayWait_zero]; iintro -; iempintro)) $$ [CS2 HO AS2]
  · isplitr; · iexact IS2
    isplitl [CS2]; · iexact CS2
    isplitl [HO]; · iexact HO
    isplitr; · iexact Hlev
    iexact AS2
  iintro ⟨HO, ZS2, ⟨%b2, Hs2⟩⟩
  iapply (landed_step m ρ K 2 c 0 _ (by rw [MayWait_zero]; iintro -; iempintro)) $$ [CV2 HO AV2]
  · isplitr; · iexact IV2
    isplitl [CV2]; · iexact CV2
    isplitl [HO]; · iexact HO
    isplitr; · iexact Hlev
    iexact AV2
  iintro ⟨HO, ZV2, ⟨%l2, %hl2, Hv2⟩⟩
  iapply (take_recv 2 c l2) $$ Hv2
  iintro %u2 %hu2 Hv2
  iapply (wp_load 𝒱₀ (c : Thread nD τ) none Set.univ (m := Memref.whole cc0_scratch0) (Finset.subset_univ _)) $$ Hp; iintro Hp
  have e3 : addf (shapeCast S256x512 u2 shapeCasts_S1x256x512_S256x512) (chunkAt c 2 (part m ρ c)) = acc3 m ρ c := by
    rw [hu2, hl2]; rfl
  -- the result
  iapply (wp_load 𝒱₀ (c : Thread nD τ) none Set.univ (m := Memref.whole cc0_stg4_0) (Finset.subset_univ _)) $$ Hr; iintro Hr
  iapply (store_out c (addf (shapeCast S256x512 u2 shapeCasts_S1x256x512_S256x512) (chunkAt c 2 (part m ρ c))) g4) $$ Hr; iintro Hr
  rw [wp_ret]; imodintro
  iapply Hk
  unfold leave afterwards zerosOf scratchOf Dat.owesAt Pipeline.owesWithin
  rw [show (dats m ρ 0 c).owed t0_0.succ = 0 from rfl]
  isplitl [Hp Hs0 Hs1 Hs2 Hv0 Hv1 Hv2 ZB ZS0 ZS1 ZS2 ZV0 ZV1 ZV2]
  · isplitl [Hp Hs0 Hs1 Hs2 Hv0 Hv1 Hv2]
    · isplitl [Hp]; · iexists _; iexact Hp
      isplitl [Hs0 Hs1 Hs2]
      · iapply (send_join (F := F) c b0 b1 b2)
        isplitl [Hs0]; · iexact Hs0
        isplitl [Hs1] <;> iassumption
      · iapply (recv_join (F := F) c l0 l1 l2)
        isplitl [Hv0]; · iexact Hv0
        isplitl [Hv1] <;> iassumption
    isplitl [ZB]; · iexact ZB
    isplitl [ZS0 ZS1 ZS2]
    · isplitl [ZS0]; · iexact ZS0
      isplitl [ZS1] <;> iassumption
    · isplitl [ZV0]; · iexact ZV0
      isplitl [ZV1] <;> iassumption
  isplitl [HO]
  · iexists _
    isplitr; rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexists _; isplitr; rotate_left
  · iexact Hr
  · ipureintro; exact e3

/-- `entry` at some names, as the library hands it over. -/
def entry' (c : Dev nD) : sProp 𝕄 :=
  iprop(before m ρ c
    ∗ (dats m ρ 0 c).owesAt () t0_0.castSucc
    ∗ (∃ d, holds c cc0_stg0_0 ((dats m ρ 0 c).before (0 : Fin 5) t0_0 d))
    ∗ (∃ d, holds c cc0_stg1_0 ((dats m ρ 0 c).before (1 : Fin 5) t0_0 d))
    ∗ (∃ d, holds c cc0_stg2_0 ((dats m ρ 0 c).before (2 : Fin 5) t0_0 d))
    ∗ (∃ d, holds c cc0_stg3_0 ((dats m ρ 0 c).before (3 : Fin 5) t0_0 d))
    ∗ (∃ d, holds c cc0_stg4_0 ((dats m ρ 0 c).before (4 : Fin 5) t0_0 d)))

set_option maxRecDepth 65536 in
/-- The pipeline's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show entry' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      cc0_scratch3 cc0_scratch4) (fun _ => leave m ρ c)
  unfold entry' before startOf
  iintro ⟨⟨⟨⟨%K, Hg⟩, Hc, Hl⟩, Hs⟩, Hrest⟩
  iapply (body_run m ρ K c fun _ => leave m ρ c)
  unfold entry
  isplitr []
  · isplitl [Hg Hc Hl Hs]
    · isplitl [Hg]; · iexact Hg
      isplitl [Hc]; · iexact Hc
      isplitl [Hl] <;> iassumption
    · iexact Hrest
  · iintro H; iexact H

end Run

end Cert.Moe

end
-- ==== Proof.Launch.lean ====
/-
# The launch: cells, tokens and credit dealt to the four devices, and the run of @main
-/
module

public import proofs.«01_k».proof.Proof.Run
public import proofs.«01_k».proof.Proof.Gen.KernelIdeal.Frame
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ AllU ℕ

variable (m : (ℓ : Loc nD τ sig) → Buf (Elt F) ℓ) (ρ : Dev nD → PrngReg)

/-! ## The cells and the tokens of the launch -/

/-- The kernel's own semaphores: three for sending, three for receiving. -/
abbrev ownSem (k : Fin 6) : SemLoc sig :=
  match k with
  | 0 => .dma (sS 0) | 1 => .dma (sS 1) | 2 => .dma (sS 2) | 3 => .dma (vS 0) | 4 => .dma (vS 1) | 5 => .dma (vS 2)

theorem ownSem_facts : Pipeline.OwnSemFacts cfg0.spec ownSem := by decide

theorem share_full (c : Dev nD) (w : Fin cfg0.W) : (dats m ρ 0 c).share w = fullShare := by
  unfold Dat.share; split <;> rfl

theorem cell_injective : Function.Injective (cell : Dev nD × CI → GSem nD τ sig) := fun a b h => by
  have h1 : a.1 = b.1 := congrArg (fun g : GSem nD τ sig => g.1.1) h
  have h2 : a.2 = b.2 := semOf_injective (congrArg Prod.snd h)
  exact Prod.ext h1 h2

theorem cell_eq_iff {c d : Dev nD} (i : CI) : Iff (cell (c, i) = cell (d, i)) (c = d) :=
  ⟨fun h => congrArg Prod.fst (cell_injective h), fun h => h ▸ rfl⟩

/-- The tokens minted for device `c`: the second unit of its barrier, and one for each cell. -/
abbrev tokenOf (cj : Dev nD × Option CI) : GSem nD τ sig × ℕ × Bool :=
  match cj.2 with
  | none => (cell (cj.1, none), 0, true)
  | some i => (cell (cj.1, i), 0, false)

theorem tokenOf_injective : Function.Injective tokenOf := by
  rintro ⟨c, _ | i⟩ ⟨d, _ | j⟩ h
  · have := cell_injective (congrArg Prod.fst h); exact Prod.ext (Prod.mk.inj this).1 rfl
  · exact absurd (congrArg (fun x : GSem nD τ sig × ℕ × Bool => x.2.2) h) (fun h' : true = false => Bool.noConfusion h')
  · exact absurd (congrArg (fun x : GSem nD τ sig × ℕ × Bool => x.2.2) h) (fun h' : false = true => Bool.noConfusion h')
  · have := cell_injective (congrArg Prod.fst h); exact Prod.ext (Prod.mk.inj this).1 (congrArg some (Prod.mk.inj this).2)

def allCells : Finset (GSem nD τ sig) := Finset.univ.map ⟨cell, cell_injective⟩
def allTokens : Finset (GSem nD τ sig × ℕ × Bool) := Finset.univ.map ⟨tokenOf, tokenOf_injective⟩

/-- The launch element: the pipeline's own, and the ring's. -/
def u₀ : AllU :=
  (initOf (Pipeline.cells cfgs cellOf_inj) (Pipeline.launchToks cfgs cellOf_inj), initOf allCells allTokens)

/-- The tokens of device `c`'s own cells. -/
def tokensAt (c : Dev nD) : sProp 𝕄 :=
  iprop(dutyTok embG (barCell c) 0 true ∗ dutyTok embG (barCell c) 0 false
    ∗ (dutyTok embG (sendCell c 0) 0 false ∗ dutyTok embG (sendCell c 1) 0 false ∗ dutyTok embG (sendCell c 2) 0 false)
    ∗ (dutyTok embG (recvCell c 0) 0 false ∗ dutyTok embG (recvCell c 1) 0 false ∗ dutyTok embG (recvCell c 2) 0 false))

/-- A mark that a cell has reached its round, with the owner's position there. -/
abbrev marked (ci : Dev nD × CI) : sProp 𝕄 := iprop(atPos embG (cell ci) 0 ∅ 0 ∗ reached embG (cell ci) 0)

def dealt (c : Dev nD) : sProp 𝕄 :=
  iprop((bigSep Finset.univ fun i : CI => roundState embG (plan m ρ) (cell (c, i)) 0)
    ∗ (bigSep Finset.univ fun i : CI => marked (c, i)) ∗ tokensAt c)

def ghosts (c : Dev nD) : sProp 𝕄 := iprop(∃ K, ghostOf m ρ K c)

omit [FloatOps F] in
theorem bigSep_CI (Φ : CI → sProp 𝕄) :
    bigSep Finset.univ Φ = iprop(Φ none ∗ Φ (some (false, 0)) ∗ Φ (some (false, 1)) ∗ Φ (some (false, 2))
      ∗ Φ (some (true, 0)) ∗ Φ (some (true, 1)) ∗ Φ (some (true, 2))) :=
  bigSep_univ_eq_bigSepL [none, some (false, 0), some (false, 1), some (false, 2), some (true, 0), some (true, 1), some (true, 2)]
    (by decide) (by decide) Φ

omit [FloatOps F] in
theorem bigSep_tokens (Φ : Option CI → sProp 𝕄) :
    bigSep Finset.univ Φ = iprop(Φ none ∗ Φ (some none) ∗ Φ (some (some (false, 0))) ∗ Φ (some (some (false, 1))) ∗ Φ (some (some (false, 2)))
      ∗ Φ (some (some (true, 0))) ∗ Φ (some (some (true, 1))) ∗ Φ (some (some (true, 2)))) :=
  bigSep_univ_eq_bigSepL [none, some none, some (some (false, 0)), some (some (false, 1)), some (some (false, 2)),
    some (some (true, 0)), some (some (true, 1)), some (some (true, 2))] (by decide) (by decide) Φ

omit [FloatOps F] in
/-- The seven cells of a device, sends and receives in groups of three. -/
theorem group_cells (Φ : CI → sProp 𝕄) :
    bigSep Finset.univ Φ ⊢ iprop(Φ none ∗ (Φ (some (false, 0)) ∗ Φ (some (false, 1)) ∗ Φ (some (false, 2)))
      ∗ (Φ (some (true, 0)) ∗ Φ (some (true, 1)) ∗ Φ (some (true, 2)))) := by
  rw [bigSep_CI]
  iintro ⟨B, S0, S1, S2, V0, V1, V2⟩
  isplitl [B]; · iexact B
  isplitl [S0 S1 S2]
  · isplitl [S0]; · iexact S0
    isplitl [S1] <;> iassumption
  · isplitl [V0]; · iexact V0
    isplitl [V1] <;> iassumption

omit [FloatOps F] in
theorem tokens_dealt (c : Dev nD) :
    (bigSep Finset.univ fun j : Option CI => (dutyTok embG (tokenOf (c, j)).1 (tokenOf (c, j)).2.1 (tokenOf (c, j)).2.2 : sProp 𝕄)) ⊢ tokensAt c := by
  rw [bigSep_tokens]; unfold tokensAt
  iintro ⟨T, B, S0, S1, S2, V0, V1, V2⟩
  isplitl [T]; · iexact T
  isplitl [B]; · iexact B
  isplitl [S0 S1 S2]
  · isplitl [S0]; · iexact S0
    isplitl [S1] <;> iassumption
  · isplitl [V0]; · iexact V0
    isplitl [V1] <;> iassumption

theorem fund_ring : BI.own (embG (initOf allCells allTokens)) ⊢ (|==> bigSep Finset.univ (dealt m ρ) : sProp 𝕄) := by
  have hX (Φ : GSem nD τ sig → sProp 𝕄) :
      bigSep allCells Φ = bigSep Finset.univ fun c : Dev nD => bigSep Finset.univ fun i : CI => Φ (cell (c, i)) := by
    unfold allCells; rw [bigSep_map, bigSep_univ_prod]; rfl
  have hT : bigSep allTokens (fun x => (dutyTok embG x.1 x.2.1 x.2.2 : sProp 𝕄)) ⊢ bigSep Finset.univ fun c : Dev nD => tokensAt c := by
    unfold allTokens; rw [bigSep_map, bigSep_univ_prod]
    exact bigSep_mono fun c _ => tokens_dealt c
  iintro HX
  imod (Rounds.fund embG (plan m ρ) allCells allTokens) $$ HX with ⟨Hst, Hr, Hat, Htok⟩
  imodintro
  ihave Hst := (Entails.of_eq (hX fun g => roundState embG (plan m ρ) g 0)) $$ Hst
  ihave Hat := (Entails.of_eq (hX fun g => atPos embG g 0 ∅ 0)) $$ Hat
  ihave Hr := (Entails.of_eq (hX fun g => reached embG g 0)) $$ Hr
  ihave Htok := hT $$ Htok
  unfold dealt marked; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := AllU) (Lvl := ℕ) (Val := Elt F) (τ := τ) ownSem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c ownSem [0, 1, 2, 3, 4, 5] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem counters (c : Dev nD) :
    iprop(Pipeline.ownSems0 (Ix := Unit) (Name := ℕ) (U := AllU) (Lvl := ℕ) (Val := Elt F) (τ := τ) ownSem c ∗ unscopedSems0 c)
      ⊢ (bigSep Finset.univ fun i : CI => semVal (cell (c, i)) 0 : sProp 𝕄) := by
  rw [ownSems0_eq, unscopedSems0_eq, bigSep_CI]
  iintro ⟨Ho, Hb⟩
  isplitl [Hb]; · iexact Hb
  iexact Ho

abbrev someInv (ci : Dev nD × CI) : sProp 𝕄 := iprop(∃ κ : ℕ, cellInv embG (plan m ρ) κ (cell ci))

/-- One device's cells put under invariants. -/
theorem core_alloc (c : Dev nD) :
    iprop(Pipeline.ownSems0 (Ix := Unit) (Name := ℕ) (U := AllU) (Lvl := ℕ) (Val := Elt F) (τ := τ) ownSem c ∗ unscopedSems0 c ∗ dealt m ρ c)
      ⊢ |={Set.univ}=> iprop((bigSep Finset.univ fun i => someInv m ρ (c, i)) ∗ (bigSep Finset.univ fun i => marked (c, i)) ∗ tokensAt c) := by
  unfold dealt
  iintro ⟨Hos, Hus, Hst, Hat, Htok⟩
  ihave Hv := (counters (F := F) c) $$ [Hos Hus]
  · isplitl [Hos] <;> iassumption
  imod (show iprop((bigSep Finset.univ fun i : CI => semVal (cell (c, i)) 0) ∗ bigSep Finset.univ fun i : CI => roundState embG (plan m ρ) (cell (c, i)) 0)
      ⊢ (|={Set.univ}=> bigSep Finset.univ fun i => someInv m ρ (c, i) : sProp 𝕄) from by
        rw [← bigSep_sep']
        exact (bigSep_mono fun i _ => (Rounds.body_intro embG (plan m ρ) (cell (c, i))).trans inv_alloc).trans (bigSep_fupd _ _)) $$ [Hv Hst] with Hinv
  · isplitl [Hv] <;> iassumption
  imodintro
  isplitl [Hinv]; · iexact Hinv
  isplitl [Hat]; · iexact Hat
  iexact Htok

section Names

variable (K : Dev nD × CI → ℕ)

def allInvs : sProp 𝕄 := bigSep Finset.univ fun ci : Dev nD × CI => invOf m ρ K ci
def allMarks : sProp 𝕄 := bigSep Finset.univ fun ci : Dev nD × CI => reached embG (cell ci) 0

instance allInvs_persistent : BI.Persistent (allInvs m ρ K) := by unfold allInvs; infer_instance
omit [FloatOps F] in
instance allMarks_persistent : BI.Persistent (allMarks (F := F)) := by unfold allMarks; infer_instance

theorem inv_at (ci : Dev nD × CI) : allInvs m ρ K ⊢ invOf m ρ K ci := bigSep_elim (Finset.mem_univ ci)
omit [FloatOps F] in
theorem mark_at (ci : Dev nD × CI) : (allMarks : sProp 𝕄) ⊢ reached embG (cell ci) 0 :=
  bigSep_elim (Φ := fun ci : Dev nD × CI => (reached embG (cell ci) 0 : sProp 𝕄)) (Finset.mem_univ ci)

theorem invs_for (c : Dev nD) : allInvs m ρ K ⊢ invsOf m ρ K c := by
  unfold invsOf
  iintro #H
  isplitr; · iapply (inv_at m ρ K (c, none)); iexact H
  isplitr; · iapply (inv_at m ρ K (nxt c, none)); iexact H
  isplitr; · iapply (inv_at m ρ K (prv c, none)); iexact H
  isplitr
  · isplitr; · iapply (inv_at m ρ K (c, some (false, 0))); iexact H
    isplitr; · iapply (inv_at m ρ K (c, some (false, 1))); iexact H
    iapply (inv_at m ρ K (c, some (false, 2))); iexact H
  isplitr
  · isplitr; · iapply (inv_at m ρ K (c, some (true, 0))); iexact H
    isplitr; · iapply (inv_at m ρ K (c, some (true, 1))); iexact H
    iapply (inv_at m ρ K (c, some (true, 2))); iexact H
  isplitr; · iapply (inv_at m ρ K (nxt c, some (true, 0))); iexact H
  isplitr; · iapply (inv_at m ρ K (nxt c, some (true, 1))); iexact H
  iapply (inv_at m ρ K (nxt c, some (true, 2))); iexact H

omit [FloatOps F] in
theorem marks_for (c : Dev nD) : (allMarks : sProp 𝕄) ⊢ marksOf c := by
  unfold marksOf
  iintro #H
  isplitr; · iapply (mark_at (F := F) (nxt c, none)); iexact H
  isplitr; · iapply (mark_at (F := F) (prv c, none)); iexact H
  isplitr
  · isplitr; · iapply (mark_at (F := F) (c, some (false, 0))); iexact H
    isplitr; · iapply (mark_at (F := F) (c, some (false, 1))); iexact H
    iapply (mark_at (F := F) (c, some (false, 2))); iexact H
  isplitr; · iapply (mark_at (F := F) (nxt c, some (true, 0))); iexact H
  isplitr; · iapply (mark_at (F := F) (nxt c, some (true, 1))); iexact H
  iapply (mark_at (F := F) (nxt c, some (true, 2))); iexact H

theorem ghost_intro (c : Dev nD) : iprop((allInvs m ρ K ∗ allMarks) ∗ (posOf c ∗ paysOf c)) ⊢ ghosts m ρ c := by
  unfold ghosts ghostOf
  iintro ⟨⟨#HI, #HM⟩, Hp, Ht⟩
  iexists K
  isplitr; · iapply (invs_for m ρ K c); iexact HI
  isplitr; · iapply (marks_for (F := F) c); iexact HM
  isplitl [Hp] <;> iassumption

end Names

omit [FloatOps F] in
/-- The tokens go round the ring: a barrier's `false` unit is paid by the device before, its `true` unit by the device
    after, a receive cell's unit by the device before. -/
theorem tokens_around : (bigSep Finset.univ fun c : Dev nD => (tokensAt c : sProp 𝕄)) ⊢ bigSep Finset.univ fun c : Dev nD => paysOf c := by
  unfold tokensAt paysOf
  simp only [bigSep_sep']
  rw [bigSep_univ_equiv turn (fun c : Dev nD => (dutyTok embG (barCell c) 0 false : sProp 𝕄)),
    bigSep_univ_equiv turn.symm (fun c : Dev nD => (dutyTok embG (barCell c) 0 true : sProp 𝕄)),
    bigSep_univ_equiv turn (fun c : Dev nD => (dutyTok embG (recvCell c 0) 0 false : sProp 𝕄)),
    bigSep_univ_equiv turn (fun c : Dev nD => (dutyTok embG (recvCell c 1) 0 false : sProp 𝕄)),
    bigSep_univ_equiv turn (fun c : Dev nD => (dutyTok embG (recvCell c 2) 0 false : sProp 𝕄))]
  iintro ⟨HT, HB, HS, HV⟩
  isplitl [HB]; · iexact HB
  isplitl [HT]; · iexact HT
  isplitl [HS]; · iexact HS
  iexact HV

omit [FloatOps F] in
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => someInv m ρ (c, i)) ∗ (bigSep Finset.univ fun i => marked (c, i)) ∗ tokensAt c) : sProp 𝕄)
      ⊢ bigSep Finset.univ (ghosts m ρ) := by
  rw [bigSep_sep', bigSep_sep', ← bigSep_univ_prod (fun ci : Dev nD × CI => someInv m ρ ci),
    bigSep_congr (s := Finset.univ) (fun (c : Dev nD) _ => bigSep_sep' Finset.univ (fun i : CI => (atPos embG (cell (c, i)) 0 ∅ 0 : sProp 𝕄)) (fun i => reached embG (cell (c, i)) 0)),
    bigSep_sep', ← bigSep_univ_prod (fun ci : Dev nD × CI => (reached embG (cell ci) 0 : sProp 𝕄))]
  iintro ⟨HI, ⟨Hat, #HM⟩, Htok⟩
  ihave HK := (BI.bigSep_exists_pi Finset.univ (fun (ci : Dev nD × CI) (κ : ℕ) => (cellInv embG (plan m ρ) κ (cell ci) : sProp 𝕄))) $$ HI
  icases HK with ⟨%K, #HI⟩
  ihave Htk := (tokens_around (F := F)) $$ Htok
  iapply (beside (R := iprop(allInvs m ρ K ∗ allMarks)) fun c _ => ghost_intro m ρ K c)
  isplitr
  · unfold allInvs allMarks; isplitl; · iexact HI
    iexact HM
  · iapply ((Entails.of_eq (bigSep_sep' Finset.univ (fun c : Dev nD => bigSep Finset.univ fun i : CI => (atPos embG (cell (c, i)) 0 ∅ 0 : sProp 𝕄)) paysOf).symm).trans
      (bigSep_mono fun c _ => sep_mono_left (group_cells (F := F) fun i => atPos embG (cell (c, i)) 0 ∅ 0)))
    isplitl [Hat]; · iexact Hat
    iexact Htk

theorem glob : (bigSep Finset.univ fun c => iprop(Pipeline.ownSems0 (Ix := Unit) (Name := ℕ) (U := AllU) (Lvl := ℕ) (Val := Elt F) (τ := τ) ownSem c ∗ unscopedSems0 c ∗ dealt m ρ c) : sProp 𝕄)
    ⊢ |={Set.univ}=> bigSep Finset.univ (ghosts m ρ) :=
  ((bigSep_mono fun c _ => core_alloc m ρ c).trans (bigSep_fupd _ _)).trans (BI.fupd_mono (regroup m ρ))

/-! ## The launch credit -/

theorem bar_ne_recv {c d : Dev nD} (s : Fin 3) : barCell c ≠ recvCell d s := fun h =>
  absurd (semOf_injective (a₁ := none) (a₂ := some (true, s)) (congrArg Prod.snd h)) (by simp)

/-- A tally at one cell, read at another device's cell of the same kind. -/
theorem tally_at (i : CI) (c d : Dev nD) (n : ℕ) :
    (tallyAt (cell (c, i)) () n : CellTallies nD τ sig Unit) (cell (d, i)) () = if c = d then n else 0 := by
  rw [tallyAt_apply]
  by_cases h : c = d
  · subst h; rw [if_pos ⟨rfl, rfl⟩, if_pos rfl]
  · rw [if_neg (fun ⟨h1, _⟩ => h ((cell_eq_iff i).mp h1.symm)), if_neg h]

theorem tally_off {i j : CI} (h : i ≠ j) (c d : Dev nD) (n : ℕ) :
    (tallyAt (cell (c, i)) () n : CellTallies nD τ sig Unit) (cell (d, j)) () = 0 := by
  rw [tallyAt_ne_cell (fun h' => h (congrArg Prod.snd (cell_injective h')).symm)]; rfl

theorem owed0_at (d : Dev nD) (g : GSem nD τ sig) :
    owed0 d g () = (tallyAt (recvCell (nxt d) 2) () N : CellTallies nD τ sig Unit) g () + (tallyAt (recvCell (nxt d) 1) () N : CellTallies nD τ sig Unit) g ()
      + (tallyAt (recvCell (nxt d) 0) () N : CellTallies nD τ sig Unit) g ()
      + (tallyAt (barCell (nxt d)) () 1 : CellTallies nD τ sig Unit) g () + (tallyAt (barCell (prv d)) () 1 : CellTallies nD τ sig Unit) g () := rfl

theorem nxt_eq_iff (c d : Dev nD) : Iff (nxt d = c) (d = prv c) :=
  ⟨fun h => by rw [← h, prv_nxt], fun h => by rw [h, nxt_prv]⟩
theorem prv_eq_iff (c d : Dev nD) : Iff (prv d = c) (d = nxt c) :=
  ⟨fun h => by rw [← h, nxt_prv], fun h => by rw [h, prv_nxt]⟩

theorem owed_bar (d c : Dev nD) : owed0 d (barCell c) () = (if d = prv c then 1 else 0) + (if d = nxt c then 1 else 0) := by
  rw [owed0_at]
  rw [tally_off (i := some (true, 2)) (j := none) (by simp), tally_off (i := some (true, 1)) (j := none) (by simp), tally_off (i := some (true, 0)) (j := none) (by simp),
    tally_at none, tally_at none]
  simp only [nxt_eq_iff, prv_eq_iff, Nat.zero_add]

theorem owed_recv (s : Fin 3) (d c : Dev nD) : owed0 d (recvCell c s) () = if d = prv c then N else 0 := by
  rw [owed0_at, tally_off (i := none) (j := some (true, s)) (by simp), tally_off (i := none) (j := some (true, s)) (by simp)]
  fin_cases s
  · show _ + (tallyAt (recvCell (nxt d) 0) () N : CellTallies nD τ sig Unit) (recvCell c 0) () + 0 + 0 = _
    rw [tally_at (some (true, 0))]
    have h1 := tally_off (i := some (true, 2)) (j := some (true, 0)) (by decide) (nxt d) c N
    have h2 := tally_off (i := some (true, 1)) (j := some (true, 0)) (by decide) (nxt d) c N
    simp only [nxt_eq_iff]
    exact (congrArg₂ (fun a b => a + b + (if d = prv c then N else 0) + 0 + 0) h1 h2).trans (by simp)
  · have h1 := tally_off (i := some (true, 2)) (j := some (true, 1)) (by decide) (nxt d) c N
    have h2 := tally_off (i := some (true, 0)) (j := some (true, 1)) (by decide) (nxt d) c N
    have h3 := tally_at (some (true, 1)) (nxt d) c N
    simp only [nxt_eq_iff] at h3
    exact (congrArg₂ (fun a b => a + _ + b + 0 + 0) h1 h2).trans ((congrArg (fun b => 0 + b + 0 + 0 + 0) h3).trans (by simp))
  · have h1 := tally_off (i := some (true, 1)) (j := some (true, 2)) (by decide) (nxt d) c N
    have h2 := tally_off (i := some (true, 0)) (j := some (true, 2)) (by decide) (nxt d) c N
    have h3 := tally_at (some (true, 2)) (nxt d) c N
    simp only [nxt_eq_iff] at h3
    exact (congrArg₂ (fun a b => _ + a + b + 0 + 0) h1 h2).trans ((congrArg (fun b => b + 0 + 0 + 0 + 0) h3).trans (by simp))

theorem launch_bar (c : Dev nD) :
    tallyOn (barCell c) (launchCredit (Pipeline.owing owed0) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (s : Fin 3) (c : Dev nD) :
    tallyOn (recvCell c s) (launchCredit (Pipeline.owing owed0) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv s d c,
    Finset.sum_ite_eq' Finset.univ (prv c) fun _ => N, if_pos (Finset.mem_univ _)]

omit [FloatOps F] in
theorem bigSep_erase' {I : Type} [DecidableEq I] {S : Finset I} {i : I} {Φ : I → sProp 𝕄} (h : i ∈ S) :
    bigSep S Φ = iprop(Φ i ∗ bigSep (S.erase i) Φ) := BI.bigSep_erase h

omit [FloatOps F] in
theorem creds (c : Dev nD) : (Pipeline.launchCred owed0 c : sProp 𝕄) ⊢ credOf c := by
  unfold Pipeline.launchCred credOf
  rw [← launch_bar, ← launch_recv, ← launch_recv, ← launch_recv]
  rw [bigSep_univ_at _ (SemLoc.reg barS)]
  refine sep_mono_right ?_
  refine (Entails.of_eq (bigSep_erase' (i := SemLoc.dma (vS 0)) (by decide))).trans (sep_mono_right ?_)
  refine (Entails.of_eq (bigSep_erase' (i := SemLoc.dma (vS 1)) (by decide))).trans (sep_mono_right ?_)
  exact bigSep_elim (i := SemLoc.dma (vS 2)) (by decide)

/-! ## The side conditions of the run -/

theorem start_intro (c : Dev nD) :
    iprop(Pipeline.unscopedRestP Pipeline.Prefetch.none cfg0.spec c (fun b => m ((c : Thread nD τ).loc b)) ∗ levAts Lset level
        ∗ Pipeline.launchCred owed0 c ∗ prngReg c (ρ c) ∗ ghosts m ρ c)
      ⊢ |={Set.univ}=> iprop(startOf m ρ c ∗ emp) := by
  iintro ⟨-, Hlev, Hcr, -, HG⟩
  ihave Hc := (creds (F := F) c) $$ Hcr
  imodintro
  unfold startOf ghosts
  isplitl
  · isplitl [HG]; · iexact HG
    isplitl [Hc] <;> iassumption
  · iempintro

theorem enter (c : Dev nD) :
    iprop(startOf m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratchOf
  iintro ⟨Hs, -, Hr⟩
  isplitl [Hs] <;> iassumption

theorem exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = afterwards c from rfl, scopedRest0_eq, ownSems0_eq, unscopedSems0_eq]
  unfold afterwards zerosOf scratchOf
  iintro ⟨Hr, HB, ⟨HS0, HS1, HS2⟩, HV⟩
  isplitl [HB]; · iexact HB
  isplitl [HS0 HS1 HS2 HV]
  · isplitl [HS0]; · iexact HS0
    isplitl [HS1]; · iexact HS1
    isplitl [HS2] <;> iassumption
  iexact Hr

theorem waits (c : Dev nD) : (levAts Lset level : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on four devices, for any float values: every fair execution of @main ends, with
    every array at its final contents and every counter at zero. -/
theorem run_main : θ_run defs (onTc (τ := τ) (main (F := F))) (start₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) embP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed0) (howed₀ := fun _ => rfl) (howedN := fun _ => rfl)
    (L := Lset) (lv := level) (hL := Lset_ne) (hwaits := waits m ρ)
    (G := dealt m ρ) (G' := ghosts m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := startOf m ρ) (Y := fun c => unscopedSems0 c) (Z := fun _ => iprop(emp))
    (hX := start_intro m ρ) (hin := enter m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem finalA_arg0 (c : Dev nD) : finalA m ρ c (0 : Fin 5) = m ((c : Thread nD τ).loc main_arg0) :=
  (dats (F := F) m ρ 0 c).arrAt_in (0 : Fin 5) rfl _
theorem finalA_arg1 (c : Dev nD) : finalA m ρ c (1 : Fin 5) = m ((c : Thread nD τ).loc main_arg1) :=
  (dats (F := F) m ρ 0 c).arrAt_in (1 : Fin 5) rfl _
theorem finalA_arg2 (c : Dev nD) : finalA m ρ c (2 : Fin 5) = m ((c : Thread nD τ).loc main_arg2) :=
  (dats (F := F) m ρ 0 c).arrAt_in (2 : Fin 5) rfl _
theorem finalA_arg3 (c : Dev nD) : finalA m ρ c (3 : Fin 5) = m ((c : Thread nD τ).loc main_arg3) :=
  (dats (F := F) m ρ 0 c).arrAt_in (3 : Fin 5) rfl _

/-- The result array of device `c` ends with the sum the body stored. -/
theorem finalA_out (c : Dev nD) : finalA m ρ c (4 : Fin 5) = acc3 m ρ c := by
  have h : (win0_4.blk (0 : Fin 1)).view.read (Elt F) (finalA m ρ c (4 : Fin 5)) = acc3 m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hz : (fun a => (win0_4.index (0 : Fin 1)) a * main_v1.ty.shape.size a) = fun _ => 0 :=
    funext fun a => by fin_cases a <;> decide
  have hr := fun f => Memref.read_access_unit_zero (Elt F) main_v1 hz (fun a => by fin_cases a <;> decide) f
  rwa [hr] at h

/-- What every device's arrays hold when @main has run. -/
theorem run_arrays : θ_run defs (onTc (τ := τ) (main (F := F))) ⟨m, fun _ => 0, ρ⟩ (fun r =>
    (∀ c : Dev nD, r.2.mem ((c : Thread nD τ).loc main_v1) = acc3 m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun _ h => ⟨fun c => ⟨(h.1 c 4).trans (finalA_out m ρ c), (h.1 c 0).trans (finalA_arg0 m ρ c),
    (h.1 c 1).trans (finalA_arg1 m ρ c), (h.1 c 2).trans (finalA_arg2 m ρ c), (h.1 c 3).trans (finalA_arg3 m ρ c)⟩, h.2⟩) (run_main m ρ)

end Cert.Moe

end
-- ==== Proof.Reference.lean ====
/-
# The reference: its value, and its run on one device
-/
module

public import proofs.«01_k».proof.Proof.Gen.ReferenceIdeal
public import Idealize.ShloMosaic.Lib.Claim

@[expose] public section

noncomputable section

namespace Cert.Moe.Ref

open Cert.ReferenceIdeal Cert.ReferenceIdeal.Gen
open Idealize.ShloMosaic Idealize.ShloMosaic.TcCoe Idealize.ShloMosaic.StableHlo Idealize.SL.Sem

variable {F : FTy → Type} [FloatOps F]

/-- A number per token, spread over the columns. -/
def spread16 {et : EltTy} (v : Vec F S1024 et) : Vec F S1024x16 et :=
  broadcastInDim S1024x16 ![0, 1] bcast_S1024x1_S1024x16_0_1 (broadcastInDim S1024x1 ![0] bcast_S1024_S1024x1_0 v)
def spread512 {et : EltTy} (v : Vec F S1024 et) : Vec F S1024x512 et :=
  broadcastInDim S1024x512 ![0, 1] bcast_S1024x1_S1024x512_0_1 (broadcastInDim S1024x1 ![0] bcast_S1024_S1024x1_0 v)
def asColumn {et : EltTy} (v : Vec F S1024 et) : Vec F S1024x1 et := broadcastInDim S1024x1 ![0] bcast_S1024_S1024x1_0 v

/-- The router's scores; -/
def scores (x : FVec F S1024x256 .bf16) (w : FVec F S256x16 .bf16) : FVec F S1024x16 .f32 :=
  Host.dotGeneral dot_S1024x256_S256x16_S1024x16_1_0_0_1_n_n none (extf .f32 x bitsLt_bf16_f32) (extf .f32 w bitsLt_bf16_f32)

/-- their exponentials, the row's maximum taken off; -/
def powers (s : FVec F S1024x16 .f32) : FVec F S1024x16 .f32 :=
  Host.exp (subf s (spread16 (F := F) (et := .f32) (Host.reduce FloatOps.maximumf s (constant S_ .f32 0xFF800000#32) reducesTo_S1024x16_S1024_d1 h_S_)))

/-- the probabilities. -/
def probs (s : FVec F S1024x16 .f32) : FVec F S1024x16 .f32 :=
  Host.divf (powers s) (spread16 (F := F) (et := .f32) (Host.reduceAdd (powers s) (constant S_ .f32 0x00000000#32) reducesTo_S1024x16_S1024_d1 h_S_))

/-- Each token's first expert, and its second. -/
def first (i : Vec F S1024x2 .i32) : Vec F S1024 .i32 :=
  shapeCast S1024 (extractStridedSlice S1024x1 ![0, 0] i slices_S1024x2_S1024x1_0_0) shapeCasts_S1024x1_S1024
def second (i : Vec F S1024x2 .i32) : Vec F S1024 .i32 :=
  shapeCast S1024 (extractStridedSlice S1024x1 ![0, 1] i slices_S1024x2_S1024x1_0_1) shapeCasts_S1024x1_S1024

/-- Is it the number of an expert? -/
def isExpert (e : Vec F S1024 .i32) : Vec F S1024 .i1 :=
  andi (cmpi .sge e (broadcastInDim S1024 ![] bcast_S_S1024 (constantI S_ 32 0#32)))
    (cmpi .slt e (broadcastInDim S1024 ![] bcast_S_S1024 (constantI S_ 32 16#32)))

/-- Its probability, zero if there is no such expert. -/
def prob (p : FVec F S1024x16 .f32) (e : Vec F S1024 .i32) : FVec F S1024 .f32 :=
  select (isExpert e)
    (Host.gather gather_S1024x16_S1024x2_S1024_n_01_n_n_01_1_11 p
      (concatenate S1024x2 1 [⟨S1024x1, asColumn (F := F) (et := .i32) (iotaInDim S1024 32 0)⟩, ⟨S1024x1, asColumn (F := F) (et := .i32) e⟩]
        concatenates_S1024x1_S1024x1_S1024x2_d1))
    (broadcastInDim S1024 ![] bcast_S_S1024 (constant S_ .f32 0x00000000#32))

/-- The token times its expert's matrix. -/
def product (x : FVec F S1024x256 .bf16) (W : FVec F S16x256x512 .bf16) (e : Vec F S1024 .i32) : FVec F S1024x512 .f32 :=
  Host.dotGeneral dot_S1024x256_S1024x256x512_S1024x512_1_1_n_2_0_0 none (extf .f32 x bitsLt_bf16_f32)
    (Host.gather gather_S16x256x512_S1024x1_S1024x256x512_12_0_n_n_0_1_1256512 (extf .f32 W bitsLt_bf16_f32) (asColumn (F := F) (et := .i32) e))

/-- One expert's share of the output. -/
def term (x : FVec F S1024x256 .bf16) (W : FVec F S16x256x512 .bf16) (e : Vec F S1024 .i32) (g gs : FVec F S1024 .f32) : FVec F S1024x512 .f32 :=
  select (spread512 (F := F) (et := .i1) (isExpert e)) (mulf (spread512 (F := F) (et := .f32) (Host.divf g gs)) (product x W e))
    (broadcastInDim S1024x512 ![] bcast_S_S1024x512 (constant S_ .f32 0x00000000#32))

/-- The reference's value. -/
def value (x : FVec F S1024x256 .bf16) (w : FVec F S256x16 .bf16) (i : Vec F S1024x2 .i32) (W : FVec F S16x256x512 .bf16) : FVec F S1024x512 .f32 :=
  addf (term x W (first i) (prob (probs (scores x w)) (first i)) (addf (prob (probs (scores x w)) (first i)) (prob (probs (scores x w)) (second i))))
    (term x W (second i) (prob (probs (scores x w)) (second i)) (addf (prob (probs (scores x w)) (first i)) (prob (probs (scores x w)) (second i))))

set_option maxHeartbeats 4000000 in
set_option maxRecDepth 65536 in
/-- The reference's run. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = value (F := F) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  hlo_run
  rfl

end Cert.Moe.Ref

end
-- ==== Proof.Frames.lean ====
/-
# The frames

The kernel and its idealization are one text: the run over any float values, read at words, is the kernel's frame,
and at the extended reals the idealization's.
-/
module

public import proofs.«01_k».proof.Defs
public import proofs.«01_k».proof.Proof.Launch
public import proofs.«01_k».proof.Proof.Reference
public import proofs.«01_k».proof.Proof.Gen.Kernel

@[expose] public section

noncomputable section

namespace Cert.Moe

open Idealize.ShloMosaic Idealize.ShloMosaic.TcCoe Idealize.SL.Sem

/-- The run over any float values, the result dropped. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_arrays m ρ)

/-- The two programs' kernel bodies are one, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
  | ⟨n + 1, h⟩, a => exact absurd h (Nat.not_lt.2 (Nat.le_add_left _ _))
/-- and so are the tables of what they call. -/
theorem defs_eq {F : FTy → Type} [FloatOps F] : Cert.Kernel.defs (F := F) = Cert.KernelIdeal.defs (F := F) :=
  congrArg (Pipeline.defs _) bodies_eq

/-- The kernel's frame: -/
theorem frame_kernel : Cert.quiescent_Kernel := fun m ρ _ => by
  rw [defs_eq]
  exact quiet (F := Bits) m ρ

/-- its idealization's, -/
theorem frame_kernelIdeal : Cert.quiescent_KernelIdeal := fun m ρ _ => quiet (F := Ideal) m ρ

/-- and the reference's, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Ref.run (F := Ideal) m ρ)

end Cert.Moe

end
-- ==== Proof.Sums.lean ====
/-
# The sum over the experts

What the equation of the kernel and the reference comes down to at one token and one output column. The kernel adds
over all sixteen experts, weighting each by the router weights that name it; the reference takes the two named ones.
An index that is no expert's number names none: on both sides it contributes zero.

Addition of extended reals does not distribute over multiplication in general. It does where one summand is zero,
and where both are equal, which are the only cases that occur: two different indices name different experts, and
two equal indices have equal weights.
-/
module

public import Idealize.ShloMosaic.Lib.Pointwise
public import Mathlib.Data.EReal.Operations

@[expose] public section

noncomputable section

namespace Cert.Moe

open Idealize.ShloMosaic

theorem neg_add_neg (x : EReal) : -x + -x = -(x + x) := by
  have h : x ≠ ⊥ ∨ x ≠ ⊤ := by
    rcases eq_or_ne x ⊥ with rfl | h
    · exact .inr (by decide)
    · exact .inl h
  rw [EReal.neg_add h h.symm, sub_eq_add_neg]

/-- A sum of two equal numbers distributes. -/
theorem double_mul (w y : EReal) : (w + w) * y = w * y + w * y := by
  rcases le_total 0 w with h | h
  · exact EReal.right_distrib_of_nonneg h h
  · have hu : 0 ≤ -w := by simpa using h
    have e := EReal.right_distrib_of_nonneg (c := y) hu hu
    rw [neg_add_neg, EReal.neg_mul, EReal.neg_mul, neg_add_neg] at e
    exact neg_injective e

/-- Whether a word is the number `n`. -/
theorem word_eq_iff (v : BitVec 32) (n : Nat) (hn : n < 16) : v = BitVec.ofNat 32 n ↔ v.toNat = n := by
  constructor
  · rintro rfl; rw [BitVec.toNat_ofNat]; omega
  · intro h; apply BitVec.eq_of_toNat_eq; rw [BitVec.toNat_ofNat]; omega

/-- What expert `e` is multiplied by, given the two indices and their weights. -/
def weight (v₀ v₁ : BitVec 32) (w₀ w₁ : EReal) (e : Nat) : EReal :=
  (if v₀.toNat = e then w₀ else 0) + (if v₁.toNat = e then w₁ else 0)

/-- What index `v` selects from sixteen numbers. -/
def pick (v : BitVec 32) (y : Fin 16 → EReal) : EReal := if h : v.toNat < 16 then y ⟨v.toNat, h⟩ else 0

/-- A sum masked by an index is what the index selects. -/
theorem sum_mask (v : BitVec 32) (y : Fin 16 → EReal) : (∑ e : Fin 16, if v.toNat = e.val then y e else 0) = pick v y := by
  unfold pick
  split
  · rename_i h
    rw [Finset.sum_eq_single (⟨v.toNat, h⟩ : Fin 16)]
    · simp
    · intro b _ hb; rw [if_neg]; exact fun e => hb (Fin.ext e.symm)
    · simp
  · rename_i h
    exact Finset.sum_eq_zero fun e _ => if_neg (by have := e.isLt; omega)

/-- The weighted sum over all experts takes the two named ones. -/
theorem sum_weight (v₀ v₁ : BitVec 32) (w₀ w₁ : EReal) (hw : v₀ = v₁ → w₀ = w₁) (y : Fin 16 → EReal) :
    (∑ e : Fin 16, weight v₀ v₁ w₀ w₁ e.val * y e) = pick v₀ (fun e => w₀ * y e) + pick v₁ (fun e => w₁ * y e) := by
  rw [← sum_mask, ← sum_mask, ← Finset.sum_add_distrib]
  refine Finset.sum_congr rfl fun e _ => ?_
  unfold weight
  by_cases h₀ : v₀.toNat = e.val
  · by_cases h₁ : v₁.toNat = e.val
    · obtain rfl := hw (BitVec.eq_of_toNat_eq (h₀.trans h₁.symm))
      rw [if_pos h₀, if_pos h₁, if_pos h₀, if_pos h₁, double_mul]
    · rw [if_pos h₀, if_neg h₁, if_pos h₀, if_neg h₁, add_zero, add_zero]
  · by_cases h₁ : v₁.toNat = e.val
    · rw [if_neg h₀, if_pos h₁, if_neg h₀, if_pos h₁, zero_add, zero_add]
    · rw [if_neg h₀, if_neg h₁, if_neg h₀, if_neg h₁, add_zero, zero_mul]

/-- What one device adds: its four experts, number `4d` and up. -/
def four (f : Fin 16 → EReal) (d : Fin 4) : EReal :=
  f ⟨4 * d.val, by omega⟩ + f ⟨4 * d.val + 1, by omega⟩ + f ⟨4 * d.val + 2, by omega⟩ + f ⟨4 * d.val + 3, by omega⟩

/-- The four devices' sums, in the order in which the ring adds them up, make the sum over all experts. -/
theorem ring_sum (f : Fin 16 → EReal) (a b c d : Fin 4) (h : ({a, b, c, d} : Finset (Fin 4)) = Finset.univ) :
    four f a + four f b + four f c + four f d = ∑ e : Fin 16, f e := by
  have hsum : ∑ k : Fin 4, four f k = ∑ e : Fin 16, f e := by
    simp only [Fin.sum_univ_succ, Fin.sum_univ_zero, four]
    simp only [add_zero, add_assoc]
    rfl
  rw [← hsum, ← h]
  have hc : ({a, b, c, d} : Finset (Fin 4)).card = 4 := by rw [h]; rfl
  have hab : a ∉ ({b, c, d} : Finset (Fin 4)) := fun hm => by
    rw [Finset.insert_eq_of_mem hm] at hc
    have := Finset.card_le_three (a := b) (b := c) (c := d)
    omega
  rw [Finset.card_insert_of_notMem hab] at hc
  have hbc : b ∉ ({c, d} : Finset (Fin 4)) := fun hm => by
    rw [Finset.insert_eq_of_mem hm] at hc
    have := Finset.card_le_two (a := c) (b := d)
    omega
  rw [Finset.card_insert_of_notMem hbc] at hc
  have hcd : c ∉ ({d} : Finset (Fin 4)) := fun hm => by
    rw [Finset.insert_eq_of_mem hm, Finset.card_singleton] at hc
    omega
  rw [Finset.sum_insert hab, Finset.sum_insert hbc, Finset.sum_insert hcd, Finset.sum_singleton, add_assoc, add_assoc]

end Cert.Moe

end
-- ==== Proof.Value.lean ====
/-
# What the kernel and the reference compute, element by element

Over the extended reals. `refValue_apply` is the reference at token `t` and column `h`: the two experts that the
token's indices name, each at its weight. `contrib_apply` is what device `d` contributes there: the same sum over its
own four experts, with a zero weight wherever no index names the expert. `acc3_eq` adds the devices up around the
ring: device `c` ends with block `c` of the reference's value.
-/
module

public import proofs.«01_k».proof.Proof.Protocol
public import proofs.«01_k».proof.Proof.Reference
public import proofs.«01_k».proof.Proof.Sums
public import Idealize.ShloMosaic.Lib.Layout

@[expose] public section

noncomputable section

namespace Cert.Moe

open Cert.KernelIdeal Cert.KernelIdeal.Gen
open Idealize.ShloMosaic Idealize.ShloMosaic.TcCoe

set_option maxRecDepth 16384

/-! ## Words -/

theorem select_eq (a b : BitVec 32) (u v : EReal) : Scalar.select (IntOp.cmpi .eq a b) u v = if a = b then u else v := by
  unfold Scalar.select IntOp.cmpi
  by_cases h : a = b
  · rw [if_pos h, h]; simp
  · rw [if_neg h]
    simp only [beq_eq_false_iff_ne.mpr h]
    rfl

/-- The reference's test for an expert's number. -/
theorem expert_bit (v : BitVec 32) :
    IntOp.andi (IntOp.cmpi .sge v 0#32) (IntOp.cmpi .slt v 16#32) = BitVec.ofBool (decide (v.toNat < 16)) := by
  have hv := v.isLt
  have h0 : (0#32).sle v = decide (v.toNat < 2 ^ 31) := by
    rw [BitVec.sle_eq_decide, decide_eq_decide, BitVec.toInt_eq_toNat_cond (x := v)]
    change (0 : ℤ) ≤ _ ↔ _
    split <;> omega
  have h1 : v.slt 16#32 = decide (v.toNat < 16 ∨ 2 ^ 31 ≤ v.toNat) := by
    rw [BitVec.slt_eq_decide, decide_eq_decide, BitVec.toInt_eq_toNat_cond (x := v)]
    change _ < (16 : ℤ) ↔ _
    split <;> omega
  unfold IntOp.cmpi
  simp only [h0, h1]
  by_cases hc : v.toNat < 16
  · rw [decide_eq_true hc, decide_eq_true (show v.toNat < 2 ^ 31 by omega), decide_eq_true (show v.toNat < 16 ∨ 2 ^ 31 ≤ v.toNat from .inl hc)]
    decide
  · by_cases hd : v.toNat < 2 ^ 31
    · rw [decide_eq_false hc, decide_eq_true hd, decide_eq_false (show ¬(v.toNat < 16 ∨ 2 ^ 31 ≤ v.toNat) by omega)]
      decide
    · rw [decide_eq_false hc, decide_eq_false hd, decide_eq_true (show v.toNat < 16 ∨ 2 ^ 31 ≤ v.toNat by omega)]
      decide

theorem clipped (v : BitVec 32) (h : v.toNat < 16) : min v.toInt.toNat 15 = v.toNat := by
  rw [BitVec.toInt_eq_toNat_of_lt (by omega)]
  simp only [Int.toNat_natCast]
  omega

/-- A device's own expert numbers. -/
theorem own_expert (d : Dev nD) (j : Fin 4) :
    Scalar.addi (Scalar.muli (Scalar.remsi (Scalar.divsi (Dev.word d) 1#32) 4#32) 4#32) (BitVec.ofNat 32 j.val) = BitVec.ofNat 32 (4 * d.val + j.val) := by
  revert d j; decide +kernel

/-! ## The reference's two gathers -/

theorem gather_pair (p : FVec Ideal S1024x16 .f32) (idx : IVec ReferenceIdeal.S1024x2 32) (t : Fin 1024)
    (h : idx (ix2 t 0) = BitVec.ofNat 32 t.val) (hv : (idx (ix2 t 1)).toNat < 16) :
    Host.gather ReferenceIdeal.gather_S1024x16_S1024x2_S1024_n_01_n_n_01_1_11 p idx (ix1 t) = p (ix2 t ⟨(idx (ix2 t 1)).toNat, hv⟩) := by
  have hs : ∀ k : Fin 2, ReferenceIdeal.gather_S1024x16_S1024x2_S1024_n_01_n_n_01_1_11.siIdx (ix1 t) k = ix2 t k := fun k => by
    funext b; refine Fin.ext ?_
    match b with
    | ⟨0, _⟩ => rfl
    | ⟨1, _⟩ => rfl
  unfold Host.gather
  congr 1
  funext a
  refine Fin.ext ?_
  match a with
  | ⟨0, _⟩ =>
    change min (idx (ReferenceIdeal.gather_S1024x16_S1024x2_S1024_n_01_n_n_01_1_11.siIdx (ix1 t) (0 : Fin 2))).toInt.toNat 1023 + 0 + 0 = t.val
    rw [hs, h, BitVec.toInt_eq_toNat_of_lt (by rw [BitVec.toNat_ofNat]; omega), BitVec.toNat_ofNat]
    simp only [Int.toNat_natCast]
    omega
  | ⟨1, _⟩ =>
    change min (idx (ReferenceIdeal.gather_S1024x16_S1024x2_S1024_n_01_n_n_01_1_11.siIdx (ix1 t) (1 : Fin 2))).toInt.toNat 15 + 0 + 0 = (idx (ix2 t 1)).toNat
    rw [hs, clipped _ hv, Nat.add_zero]

theorem gather_matrix (W : FVec Ideal ReferenceIdeal.S16x256x512 .f32) (idx : IVec ReferenceIdeal.S1024x1 32) (t : Fin 1024)
    (k : Fin 256) (h : Fin 512) (hv : (idx (ix2 t 0)).toNat < 16) :
    Host.gather ReferenceIdeal.gather_S16x256x512_S1024x1_S1024x256x512_12_0_n_n_0_1_1256512 W idx (ix3 t k h)
      = W (ix3 ⟨(idx (ix2 t 0)).toNat, hv⟩ k h) := by
  have hs : ReferenceIdeal.gather_S16x256x512_S1024x1_S1024x256x512_12_0_n_n_0_1_1256512.siIdx (ix3 t k h) (0 : Fin 1) = ix2 t 0 := by
    funext b; refine Fin.ext ?_
    match b with
    | ⟨0, _⟩ => rfl
    | ⟨1, _⟩ => rfl
  unfold Host.gather
  congr 1
  funext a
  refine Fin.ext ?_
  match a with
  | ⟨0, _⟩ =>
    change min (idx (ReferenceIdeal.gather_S16x256x512_S1024x1_S1024x256x512_12_0_n_n_0_1_1256512.siIdx (ix3 t k h) (0 : Fin 1))).toInt.toNat 15 + 0 + 0 = (idx (ix2 t 0)).toNat
    rw [hs, clipped _ hv, Nat.add_zero]
  | ⟨1, _⟩ => change 0 + 0 + k.val = k.val; omega
  | ⟨2, _⟩ => change 0 + 0 + h.val = h.val; omega

/-! ## The reference -/

theorem prob_apply (p : FVec Ideal S1024x16 .f32) (e : Vec Ideal S1024 .i32) (t : Fin 1024) :
    Ref.prob (F := Ideal) p e (ix1 t) = pick (e (ix1 t)) (fun n => p (ix2 t n)) := by
  unfold Ref.prob
  change Scalar.select (Ref.isExpert (F := Ideal) e (ix1 t)) _ _ = _
  have hb : Ref.isExpert (F := Ideal) e (ix1 t) = BitVec.ofBool (decide ((e (ix1 t)).toNat < 16)) :=
    Eq.trans (by pointwise [Ref.isExpert]) (expert_bit (e (ix1 t)))
  rw [hb]
  unfold pick
  by_cases hv : (e (ix1 t)).toNat < 16
  · rw [dif_pos hv]
    have h0 : (concatenate ReferenceIdeal.S1024x2 1 [⟨ReferenceIdeal.S1024x1, Ref.asColumn (F := Ideal) (et := .i32) (iotaInDim S1024 32 0)⟩,
        ⟨ReferenceIdeal.S1024x1, Ref.asColumn (F := Ideal) (et := .i32) e⟩] ReferenceIdeal.Gen.concatenates_S1024x1_S1024x1_S1024x2_d1 : IVec ReferenceIdeal.S1024x2 32) (ix2 t 0)
        = BitVec.ofNat 32 t.val := by pointwise [Ref.asColumn]
    have h1 : (concatenate ReferenceIdeal.S1024x2 1 [⟨ReferenceIdeal.S1024x1, Ref.asColumn (F := Ideal) (et := .i32) (iotaInDim S1024 32 0)⟩,
        ⟨ReferenceIdeal.S1024x1, Ref.asColumn (F := Ideal) (et := .i32) e⟩] ReferenceIdeal.Gen.concatenates_S1024x1_S1024x1_S1024x2_d1 : IVec ReferenceIdeal.S1024x2 32) (ix2 t 1)
        = e (ix1 t) := by pointwise [Ref.asColumn]
    simp only [hv, decide_true, Scalar.select]
    rw [if_pos (by decide), gather_pair p _ t h0 (by rw [h1]; exact hv)]
    simp only [h1]
  · rw [dif_neg hv]
    simp only [hv, decide_false, Scalar.select]
    rw [if_neg (by decide)]
    pointwise

theorem term_apply (x : FVec Ideal S1024x256 .bf16) (W : FVec Ideal ReferenceIdeal.S16x256x512 .bf16) (e : Vec Ideal S1024 .i32)
    (g gs : FVec Ideal S1024 .f32) (t : Fin 1024) (h : Fin 512) :
    Ref.term (F := Ideal) x W e g gs (ix2 t h)
      = pick (e (ix1 t)) (fun n => Ideal.div (g (ix1 t)) (gs (ix1 t)) * ∑ k : Fin 256, x (ix2 t k) * W (ix3 n k h)) := by
  pointwise [Ref.term, Ref.spread512, Ref.isExpert, Ref.product]
  rw [expert_bit]
  unfold pick
  have hc : Ref.asColumn (F := Ideal) (et := .i32) e (ix2 t 0) = e (ix1 t) := by pointwise [Ref.asColumn]
  by_cases hv : (e (ix1 t)).toNat < 16
  · rw [dif_pos hv]
    simp only [hv, decide_true, Scalar.select]
    rw [if_pos (by decide)]
    refine congrArg _ (Finset.sum_congr rfl fun k _ => congrArg _ ?_)
    rw [gather_matrix _ _ t k h (by rw [hc]; exact hv)]
    simp only [hc]
    rfl
  · rw [dif_neg hv]
    simp only [hv, decide_false, Scalar.select]
    rw [if_neg (by decide)]

/-- The weight of the expert that index `v` names, where a token's indices are `v₀` and `v₁`. -/
def weightOf (p : FVec Ideal S1024x16 .f32) (t : Fin 1024) (v₀ v₁ v : BitVec 32) : EReal :=
  Ideal.div (pick v fun n => p (ix2 t n)) ((pick v₀ fun n => p (ix2 t n)) + (pick v₁ fun n => p (ix2 t n)))

/-- The reference's value. -/
theorem refValue_apply (x : FVec Ideal S1024x256 .bf16) (w : FVec Ideal S256x16 .bf16) (i : Vec Ideal S1024x2 .i32)
    (W : FVec Ideal ReferenceIdeal.S16x256x512 .bf16) (t : Fin 1024) (h : Fin 512) :
    Ref.value (F := Ideal) x w i W (ix2 t h)
      = pick (i (ix2 t 0)) (fun n => weightOf (Ref.probs (Ref.scores x w)) t (i (ix2 t 0)) (i (ix2 t 1)) (i (ix2 t 0)) * ∑ k : Fin 256, x (ix2 t k) * W (ix3 n k h))
        + pick (i (ix2 t 1)) (fun n => weightOf (Ref.probs (Ref.scores x w)) t (i (ix2 t 0)) (i (ix2 t 1)) (i (ix2 t 1)) * ∑ k : Fin 256, x (ix2 t k) * W (ix3 n k h)) := by
  have h0 : Ref.first (F := Ideal) i (ix1 t) = i (ix2 t 0) := by pointwise [Ref.first]
  have h1 : Ref.second (F := Ideal) i (ix1 t) = i (ix2 t 1) := by pointwise [Ref.second]
  change Ref.term (F := Ideal) x W _ _ _ (ix2 t h) + Ref.term (F := Ideal) x W _ _ _ (ix2 t h) = _
  rw [term_apply, term_apply]
  change pick _ (fun n => Ideal.div (Ref.prob (F := Ideal) _ _ (ix1 t)) (Ref.prob (F := Ideal) _ _ (ix1 t) + Ref.prob (F := Ideal) _ _ (ix1 t)) * _)
    + pick _ (fun n => Ideal.div (Ref.prob (F := Ideal) _ _ (ix1 t)) (Ref.prob (F := Ideal) _ _ (ix1 t) + Ref.prob (F := Ideal) _ _ (ix1 t)) * _) = _
  rw [prob_apply, prob_apply, h0, h1]
  rfl

/-! ## The kernel -/

/-- The router's probabilities. -/
theorem probs_eq (x : FVec Ideal S1024x256 .bf16) (w : FVec Ideal S256x16 .bf16) (t : Fin 1024) (e : Fin 16) :
    k0_pay3 (F := Ideal) x w (ix2 t e) = Ref.probs (Ref.scores x w) (ix2 t e) := by
  pointwise [k0_pay3, k0_pay2, Ref.probs, Ref.scores, Ref.powers, Ref.spread16]

/-- The kernel's masked sum over the router's probabilities. -/
theorem masked (p : FVec Ideal S1024x16 .f32) (v : BitVec 32) (t : Fin 1024) :
    (∑ n : Fin 16, Scalar.select (IntOp.cmpi .eq (BitVec.ofNat 32 n.val) v) (p (ix2 t n) : EReal) 0) = pick v (fun n => p (ix2 t n)) := by
  rw [← sum_mask]
  refine Finset.sum_congr rfl fun n _ => ?_
  rw [select_eq]
  exact if_congr ((eq_comm).trans (word_eq_iff v n.val n.isLt)) rfl rfl

/-- A weight as the kernel masks it. -/
theorem masked_weight (d : Dev nD) (j : Fin 4) (v₀ v₁ : BitVec 32) (u₀ u₁ : EReal) :
    Scalar.select (IntOp.cmpi .eq v₀ (Scalar.addi (Scalar.muli (Scalar.remsi (Scalar.divsi (Dev.word d) 1#32) 4#32) 4#32) (BitVec.ofNat 32 j.val))) u₀ 0
      + Scalar.select (IntOp.cmpi .eq v₁ (Scalar.addi (Scalar.muli (Scalar.remsi (Scalar.divsi (Dev.word d) 1#32) 4#32) 4#32) (BitVec.ofNat 32 j.val))) u₁ 0
      = weight v₀ v₁ u₀ u₁ (4 * d.val + j.val) := by
  have hd : d.val < 4 := d.isLt
  have hj := j.isLt
  rw [own_expert, select_eq, select_eq]
  unfold weight
  rw [if_congr (word_eq_iff v₀ _ (by omega)) rfl rfl, if_congr (word_eq_iff v₁ _ (by omega)) rfl rfl]

/-- The four steps of a device's local loop, at an element. -/
theorem local_apply (d : Dev nD) (x : FVec Ideal S1024x256 .bf16) (p : FVec Ideal S1024x16 .f32) (i0 i1 : Vec Ideal S1024x1 .i32)
    (e : Fin 4 → Vec Ideal S1x256x512 .bf16) (t : Fin 1024) (h : Fin 512) (me : BitVec 32)
    (hme : me = Scalar.remsi (Scalar.divsi (Dev.word d) 1#32) 4#32) (v₀ v₁ : BitVec 32) (h₀ : i0 (ix2 t 0) = v₀) (h₁ : i1 (ix2 t 0) = v₁)
    (y : Fin 16 → EReal) (hy : ∀ j : Fin 4, ∑ k : Fin 256, x (ix2 t k) * e j (ix3 0 k h) = y ⟨4 * d.val + j.val, Nat.lt_of_lt_of_le (Nat.add_lt_add_left j.isLt _) (Nat.mul_le_mul_left 4 d.isLt)⟩) :
    k0_pay17 (F := Ideal)
      (k0_pay14 me (k0_pay2 x) (k0_pay4 (F := Ideal) i0) (k0_pay5 (F := Ideal) i1) (k0_pay9 p (k0_pay4 (F := Ideal) i0) i1)
        (k0_pay10 p (k0_pay4 (F := Ideal) i0) i1) (k0_pay11 me (k0_pay2 x) p (k0_pay4 (F := Ideal) i0) i1 (e 0))
        (k0_pay12 me p (k0_pay4 (F := Ideal) i0) i1) (k0_pay13 (F := Ideal) me i1) (Scalar.ofBits .f32 0x00000000#32) (e 1) (e 2))
      (k0_pay15 me (k0_pay4 (F := Ideal) i0) (k0_pay5 (F := Ideal) i1) (k0_pay9 p (k0_pay4 (F := Ideal) i0) i1) (k0_pay10 p (k0_pay4 (F := Ideal) i0) i1))
      (k0_pay16 (k0_pay2 x) (e 3)) (ix2 t h)
      = four (fun n => weight v₀ v₁ (weightOf p t v₀ v₁ v₀) (weightOf p t v₀ v₁ v₁) n.val * y n) d := by
  pointwise [k0_pay17, k0_pay14, k0_pay2, k0_pay4, k0_pay5, k0_pay6, k0_pay7, k0_pay8, k0_pay9, k0_pay10, k0_pay11, k0_pay12, k0_pay13, k0_pay15, k0_pay16]
  rw [h₀, h₁, masked, masked, hme]
  have w0 := masked_weight d 0 v₀ v₁ (weightOf p t v₀ v₁ v₀) (weightOf p t v₀ v₁ v₁)
  have w1 := masked_weight d 1 v₀ v₁ (weightOf p t v₀ v₁ v₀) (weightOf p t v₀ v₁ v₁)
  have w2 := masked_weight d 2 v₀ v₁ (weightOf p t v₀ v₁ v₀) (weightOf p t v₀ v₁ v₁)
  have w3 := masked_weight d 3 v₀ v₁ (weightOf p t v₀ v₁ v₀) (weightOf p t v₀ v₁ v₁)
  unfold weightOf at w0 w1 w2 w3
  unfold four weightOf
  refine congrArg₂ (· + ·) (congrArg₂ (· + ·) (congrArg₂ (· + ·) ?_ ?_) ?_) ?_
  · exact congrArg₂ (· * ·) w0 (hy 0)
  · exact congrArg₂ (· * ·) w1 (hy 1)
  · exact congrArg₂ (· * ·) w2 (hy 2)
  · exact congrArg₂ (· * ·) w3 (hy 3)

/-- What device `d` contributes, over its own block of the experts. -/
theorem contrib_apply (d : Dev nD) (x : FVec Ideal S1024x256 .bf16) (w : FVec Ideal S256x16 .bf16) (i : Vec Ideal S1024x2 .i32)
    (W : FVec Ideal ReferenceIdeal.S16x256x512 .bf16) (t : Fin 1024) (h : Fin 512) :
    contrib (F := Ideal) d x w i (Layout.block ⟨3, ![4, 256, 512]⟩ ⟨3, ![16, 256, 512]⟩ 0 4 d W) (ix2 t h)
      = four (fun n => weight (i (ix2 t 0)) (i (ix2 t 1)) (weightOf (Ref.probs (Ref.scores x w)) t (i (ix2 t 0)) (i (ix2 t 1)) (i (ix2 t 0)))
          (weightOf (Ref.probs (Ref.scores x w)) t (i (ix2 t 0)) (i (ix2 t 1)) (i (ix2 t 1))) n.val
          * ∑ k : Fin 256, x (ix2 t k) * W (ix3 n k h)) d := by
  have hp : k0_pay3 (F := Ideal) x w = Ref.probs (Ref.scores x w) := funext fun j => by
    obtain ⟨a, b, rfl⟩ : ∃ (a : Fin 1024) (b : Fin 16), j = ix2 a b := ⟨j 0, j 1, eq_ix2 j⟩
    exact probs_eq x w a b
  rw [← hp]
  refine local_apply d x (k0_pay3 (F := Ideal) x w)
    ((Memref.whole cc0_stg2_0).view.readAt (Elt Ideal) (Rect.unit (s := S1024x2) ![0, 0] S1024x1.size inb_S1024x2_S1024x1_0_0).toLoadRect i)
    ((Memref.whole cc0_stg2_0).view.readAt (Elt Ideal) (Rect.unit (s := S1024x2) ![0, 1] S1024x1.size inb_S1024x2_S1024x1_0_1).toLoadRect i)
    (fun j : Fin 4 => (Memref.whole cc0_stg3_0).view.readAt (Elt Ideal) (slabR j).toLoadRect
      (Layout.block ⟨3, ![4, 256, 512]⟩ ⟨3, ![16, 256, 512]⟩ 0 4 d W)) t h _ rfl (i (ix2 t 0)) (i (ix2 t 1)) ?_ ?_
    (fun n => ∑ k : Fin 256, x (ix2 t k) * W (ix3 n k h)) ?_
  · refine congrArg i (funext fun a => Fin.ext ?_)
    match a with
    | ⟨0, _⟩ => change 0 + 1 * t.val = t.val; omega
    | ⟨1, _⟩ => rfl
  · refine congrArg i (funext fun a => Fin.ext ?_)
    match a with
    | ⟨0, _⟩ => change 0 + 1 * t.val = t.val; omega
    | ⟨1, _⟩ => rfl
  · intro j
    refine Finset.sum_congr rfl fun k _ => congrArg (x (ix2 t k) * ·) (congrArg W (funext fun a => Fin.ext ?_))
    match a with
    | ⟨0, _⟩ => change d.val * 4 + (j.val + 1 * 0) = 4 * d.val + j.val; omega
    | ⟨1, _⟩ => change 0 + 1 * k.val = k.val; omega
    | ⟨2, _⟩ => change 0 + 1 * h.val = h.val; omega

end Cert.Moe

end
-- ==== Proof.Blocks.lean ====
/-
# The devices' sums are the reference's blocks

Device `c` ends with its block of 256 rows of the reference's value; the algebraic claim follows from the two runs.
-/
module

public import proofs.«01_k».proof.Defs
public import proofs.«01_k».proof.Proof.Value
public import proofs.«01_k».proof.Proof.Launch

@[expose] public section

noncomputable section

namespace Cert.Moe

open Cert.KernelIdeal Cert.KernelIdeal.Gen
open Idealize.ShloMosaic Idealize.ShloMosaic.TcCoe Idealize.SL.Sem

section staged
variable {F : FTy → Type} [FloatOps F] (m : (ℓ : Loc nD τ sig) → Buf (Elt F) ℓ) (ρ : Dev nD → PrngReg)

/-! The staged arguments are the arrays. -/

theorem xOf_eq (c : Dev nD) : xOf m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _
theorem wOf_eq (c : Dev nD) : wOf m ρ c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _
theorem iOf_eq (c : Dev nD) : iOf m ρ c = m ((c : Thread nD τ).loc main_arg2) :=
  Memref.read_access_unit_zero (Elt F) main_arg2
    (show (fun a => (win0_2.index (0 : Fin 1)) a * main_arg2.ty.shape.size a) = fun _ => 0 from funext fun a => by fin_cases a <;> decide)
    (fun a => by fin_cases a <;> decide) _
theorem eOf_eq (c : Dev nD) : eOf m ρ c = m ((c : Thread nD τ).loc main_arg3) :=
  Memref.read_access_unit_zero (Elt F) main_arg3
    (show (fun a => (win0_3.index (0 : Fin 1)) a * main_arg3.ty.shape.size a) = fun _ => 0 from funext fun a => by fin_cases a <;> decide)
    (fun a => by fin_cases a <;> decide) _

/-! The rows of a chunk. -/

theorem firstChunk_apply (d : Dev nD) (p : (cc0_scratch0 : Ref sig .tc).ty.Contents (Elt F)) (r : Fin 4) (hr : (d.val + 3) % 4 = r.val) (a : Fin 256) (h : Fin 512) :
    firstChunk d p (ix2 a h) = p (ix2 ⟨256 * r.val + a.val, by omega⟩ h) := by
  refine congrArg p (funext fun b => Fin.ext ?_)
  have ho := k0_off1_eq d
  match b with
  | ⟨0, _⟩ =>
    change k0_off1 d 0 + 1 * a.val = 256 * r.val + a.val
    rw [ho]
    change 256 * ((d.val + 3) % 4) + 1 * a.val = _
    omega
  | ⟨1, _⟩ =>
    change k0_off1 d 1 + 1 * h.val = h.val
    rw [ho]
    change 0 + 1 * h.val = _
    omega

theorem chunkAt_apply (d : Dev nD) (s : Fin 3) (p : (cc0_scratch0 : Ref sig .tc).ty.Contents (Elt F)) (r : Fin 4) (hr : (d.val + 6 - s.val) % 4 = r.val)
    (a : Fin 256) (h : Fin 512) :
    chunkAt d s p (ix2 a h) = p (ix2 ⟨256 * r.val + a.val, by omega⟩ h) := by
  refine congrArg p (funext fun b => Fin.ext ?_)
  have ho := k0_off2_eq d s
  match b with
  | ⟨0, _⟩ =>
    change k0_off2 d (BitVec.ofNat 32 s.val) 0 + 1 * a.val = 256 * r.val + a.val
    rw [ho]
    change 256 * ((d.val + 6 - s.val) % 4) + 1 * a.val = _
    omega
  | ⟨1, _⟩ =>
    change k0_off2 d (BitVec.ofNat 32 s.val) 1 + 1 * h.val = h.val
    rw [ho]
    change 0 + 1 * h.val = _
    omega

end staged

theorem all_devices (c : Dev nD) : ({prv (prv (prv c)), prv (prv c), prv c, c} : Finset (Fin 4)) = Finset.univ := by
  revert c; decide

/-- Device `c` ends with block `c` of the reference's value. -/
theorem acc3_eq (m : (ℓ : Loc nD τ sig) → Buf (Elt Ideal) ℓ) (ρ : Dev nD → PrngReg) (c : Dev nD)
    (x : FVec Ideal S1024x256 .bf16) (w : FVec Ideal S256x16 .bf16) (i : Vec Ideal S1024x2 .i32) (W : FVec Ideal ReferenceIdeal.S16x256x512 .bf16)
    (hx : ∀ d : Dev nD, m ((d : Thread nD τ).loc main_arg0) = x) (hw : ∀ d : Dev nD, m ((d : Thread nD τ).loc main_arg1) = w)
    (hi : ∀ d : Dev nD, m ((d : Thread nD τ).loc main_arg2) = i)
    (hW : ∀ d : Dev nD, m ((d : Thread nD τ).loc main_arg3) = Layout.block ⟨3, ![4, 256, 512]⟩ ⟨3, ![16, 256, 512]⟩ 0 4 d W) :
    acc3 m ρ c = Layout.block ⟨2, ![256, 512]⟩ ⟨2, ![1024, 512]⟩ 0 4 c (Ref.value (F := Ideal) x w i W) := by
  funext j
  obtain ⟨a, h, rfl⟩ : ∃ (a : Fin 256) (h : Fin 512), j = ix2 a h := ⟨j 0, j 1, eq_ix2 j⟩
  have hp : ∀ d, part m ρ d = contrib (F := Ideal) d x w i (Layout.block ⟨3, ![4, 256, 512]⟩ ⟨3, ![16, 256, 512]⟩ 0 4 d W) := fun d => by
    unfold part
    rw [xOf_eq, wOf_eq, iOf_eq, eOf_eq, hx, hw, hi, hW]
  have hc : c.val < 4 := c.isLt
  have hrow : (Layout.block ⟨2, ![256, 512]⟩ ⟨2, ![1024, 512]⟩ 0 4 c (Ref.value (F := Ideal) x w i W)) (ix2 a h)
      = Ref.value (F := Ideal) x w i W (ix2 ⟨256 * c.val + a.val, by omega⟩ h) := by
    refine congrArg (Ref.value (F := Ideal) x w i W) (funext fun b => Fin.ext ?_)
    match b with
    | ⟨0, _⟩ => change c.val * 256 + a.val = 256 * c.val + a.val; omega
    | ⟨1, _⟩ => rfl
  rw [hrow, refValue_apply]
  have h0 : ((prv (prv (prv c))).val + 3) % 4 = c.val := by clear * -; revert c; decide
  have h1 : ((prv (prv c)).val + 6 - (0 : Fin 3).val) % 4 = c.val := by clear * -; revert c; decide
  have h2 : ((prv c).val + 6 - (1 : Fin 3).val) % 4 = c.val := by clear * -; revert c; decide
  have h3 : (c.val + 6 - (2 : Fin 3).val) % 4 = c.val := by clear * -; revert c; decide
  have e := ring_sum
    (fun n => weight (i (ix2 ⟨256 * c.val + a.val, by omega⟩ 0)) (i (ix2 ⟨256 * c.val + a.val, by omega⟩ 1))
      (weightOf (Ref.probs (Ref.scores x w)) ⟨256 * c.val + a.val, by omega⟩ (i (ix2 ⟨256 * c.val + a.val, by omega⟩ 0)) (i (ix2 ⟨256 * c.val + a.val, by omega⟩ 1)) (i (ix2 ⟨256 * c.val + a.val, by omega⟩ 0)))
      (weightOf (Ref.probs (Ref.scores x w)) ⟨256 * c.val + a.val, by omega⟩ (i (ix2 ⟨256 * c.val + a.val, by omega⟩ 0)) (i (ix2 ⟨256 * c.val + a.val, by omega⟩ 1)) (i (ix2 ⟨256 * c.val + a.val, by omega⟩ 1)))
      n.val * ∑ k : Fin 256, x (ix2 ⟨256 * c.val + a.val, by omega⟩ k) * W (ix3 n k h))
    _ _ _ _ (all_devices c)
  rw [sum_weight _ _ _ _ (fun hv => by rw [hv])] at e
  rw [← e]
  change ((firstChunk _ (part m ρ _) (ix2 a h) + chunkAt _ 0 (part m ρ _) (ix2 a h)) + chunkAt _ 1 (part m ρ _) (ix2 a h) : EReal) + chunkAt _ 2 (part m ρ _) (ix2 a h) = _
  rw [firstChunk_apply _ _ c h0, chunkAt_apply _ _ _ c h1, chunkAt_apply _ _ _ c h2, chunkAt_apply _ _ _ c h3, hp, hp, hp, hp,
    contrib_apply, contrib_apply, contrib_apply, contrib_apply]

/-- The kernel's results are the reference's blocks. -/
theorem algebraic : Cert.algebraic_KernelIdeal_ReferenceIdeal := fun m ρ m' ρ' _ hin =>
  ⟨_, (θ_run Cert.KernelIdeal.defs _ _).mono
      (fun _ h c => ⟨(h.1 c).1.trans (acc3_eq m ρ c _ _ _ _ (fun d => (hin d).1) (fun d => (hin d).2.1) (fun d => (hin d).2.2.1) (fun d => (hin d).2.2.2)), (h.1 c).2⟩)
      (run_arrays (F := Ideal) m ρ),
    (θ_run Cert.ReferenceIdeal.defs _ _).mono (fun _ h => h 0) (Ref.run (F := Ideal) m' ρ')⟩

end Cert.Moe

end
-- ==== Proof.lean ====
/-
# The certificate

The kernel's frame, its idealization's and the reference's (`Proof/Frames.lean`), and the equation of the two
programs over the extended reals (`Proof/Blocks.lean`). The idealization rewrote nothing.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Blocks

@[expose] public section

noncomputable section

namespace Cert.Proof

theorem claim : Cert.Claim :=
  ⟨Cert.Kernel.Gen.facts, Cert.KernelIdeal.Gen.facts, Cert.ReferenceIdeal.Gen.facts,
    Cert.Moe.frame_kernel, Cert.Moe.frame_kernelIdeal, Cert.Moe.frame_reference, trivial, Cert.Moe.algebraic⟩

end Cert.Proof

end
